-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S7x1x1024 : Shape := ⟨3, ![7, 1, 1024]⟩
abbrev S7 : Shape := ⟨1, ![7]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S7x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v37 : BitVec 32 := Scalar.addi v2 c1_i32_32
  let c8_i32_33 : BitVec 32 := 8#32
  let v38 : BitVec 32 := Scalar.remsi v37 c8_i32_33
  let c1_i32_37 : BitVec 32 := 1#32
  let v39 : BitVec 32 := Scalar.muli v38 c1_i32_37
  let v40 : BitVec 32 := Scalar.addi c0_i32_38 v39
  v40.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_41 : BitVec 32 := 2#32
  let v47 : BitVec 32 := Scalar.addi v2 c2_i32_41
  let c8_i32_42 : BitVec 32 := 8#32
  let v48 : BitVec 32 := Scalar.remsi v47 c8_i32_42
  let c1_i32_46 : BitVec 32 := 1#32
  let v49 : BitVec 32 := Scalar.muli v48 c1_i32_46
  let v50 : BitVec 32 := Scalar.addi c0_i32_47 v49
  v50.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v57 : BitVec 32 := Scalar.addi v2 c3_i32_50
  let c8_i32_51 : BitVec 32 := 8#32
  let v58 : BitVec 32 := Scalar.remsi v57 c8_i32_51
  let c1_i32_55 : BitVec 32 := 1#32
  let v59 : BitVec 32 := Scalar.muli v58 c1_i32_55
  let v60 : BitVec 32 := Scalar.addi c0_i32_56 v59
  v60.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v67 : BitVec 32 := Scalar.addi v2 c4_i32_59
  let c8_i32_60 : BitVec 32 := 8#32
  let v68 : BitVec 32 := Scalar.remsi v67 c8_i32_60
  let c1_i32_64 : BitVec 32 := 1#32
  let v69 : BitVec 32 := Scalar.muli v68 c1_i32_64
  let v70 : BitVec 32 := Scalar.addi c0_i32_65 v69
  v70.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_68 : BitVec 32 := 5#32
  let v77 : BitVec 32 := Scalar.addi v2 c5_i32_68
  let c8_i32_69 : BitVec 32 := 8#32
  let v78 : BitVec 32 := Scalar.remsi v77 c8_i32_69
  let c1_i32_73 : BitVec 32 := 1#32
  let v79 : BitVec 32 := Scalar.muli v78 c1_i32_73
  let v80 : BitVec 32 := Scalar.addi c0_i32_74 v79
  v80.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_77 : BitVec 32 := 6#32
  let v87 : BitVec 32 := Scalar.addi v2 c6_i32_77
  let c8_i32_78 : BitVec 32 := 8#32
  let v88 : BitVec 32 := Scalar.remsi v87 c8_i32_78
  let c1_i32_82 : BitVec 32 := 1#32
  let v89 : BitVec 32 := Scalar.muli v88 c1_i32_82
  let v90 : BitVec 32 := Scalar.addi c0_i32_83 v89
  v90.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_86 : BitVec 32 := 7#32
  let v97 : BitVec 32 := Scalar.addi v2 c7_i32_86
  let c8_i32_87 : BitVec 32 := 8#32
  let v98 : BitVec 32 := Scalar.remsi v97 c8_i32_87
  let c1_i32_91 : BitVec 32 := 1#32
  let v99 : BitVec 32 := Scalar.muli v98 c1_i32_91
  let v100 : BitVec 32 := Scalar.addi c0_i32_92 v99
  v100.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealCells.lean ====
/-
# Who talks to whom, through which buffers and semaphores

Eight devices, seven offsets. For the offset numbered `k` (the step `k + 1` around the mesh) device `c` signals the
barrier of `peer k c`, and later copies its own column sums into that device's communication buffer, at slot
`rev k`. This module names the devices, the seven slots of the communication buffer, the semaphores, and what the
buffers hold.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.ShareLeaves
public import Idealize.ShloMosaic.Lib.ValueLayout
public import Idealize.ShloMosaic.Lib.ValueIdx
public import Idealize.ShloMosaic.Lib.Ring
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's share of it and the exchange's, whose duties are named by offsets -/

/-- The exchange's share of the algebra: rounds of the semaphores, whose duties are named by offsets; -/
abbrev UB : Type := URounds (GSem nD τ sig) (Fin 7)
/-- and with it the pipeline's. -/
abbrev UU : Type := UR sig nD τ × UB

local notation "𝕄" => MT nD τ sig Unit (Elt F) ℕ UU ℕ

/-- Where the pipeline's share lies in the whole; -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

/-- All seven offsets in the order in which the kernel takes them. -/
abbrev offs : List (Fin 7) := [0, 1, 2, 3, 4, 5, 6]

/-- The list of offsets has no repetition; -/
theorem offs_nodup : offs.Nodup := by decide
/-- and it lists all seven. -/
theorem offs_univ : (Finset.univ : Finset (Fin 7)) = offs.toFinset := by decide

/-- The device `k + 1` steps after `c`. -/
def peer (k : Fin 7) (c : Dev nD) : Dev nD := ⟨(c.val + (k.val + 1)) % 8, Nat.mod_lt _ (Nat.succ_pos 7)⟩

/-- The opposite offset: `k + 1` steps forward and then `rev k + 1` steps forward are a whole turn. -/
def rev (k : Fin 7) : Fin 7 := ⟨6 - k.val, Nat.lt_succ_of_le (Nat.sub_le 6 k.val)⟩

/-- Reversing an offset twice gives it back. -/
theorem rev_rev (k : Fin 7) : rev (rev k) = k := by revert k; decide
/-- The peer of a peer at the reversed offset is the device itself, -/
theorem peer_rev_peer (k : Fin 7) (c : Dev nD) : peer (rev k) (peer k c) = c := by revert k c; decide
/-- in either order. -/
theorem peer_peer_rev (k : Fin 7) (c : Dev nD) : peer k (peer (rev k) c) = c := by revert k c; decide

/-- Going `k + 1` steps forward permutes the devices. -/
def turn (k : Fin 7) : Dev nD ≃ Dev nD := ⟨peer k, peer (rev k), peer_rev_peer k, peer_peer_rev k⟩

/-- Taking the opposite offset permutes the offsets. -/
def flip : Fin 7 ≃ Fin 7 := ⟨rev, rev, rev_rev, rev_rev⟩

/-- The devices the kernel's seven signals are addressed to, as the kernel computes them. -/
def sigDev (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

/-- The devices its seven copies are addressed to. -/
def dstDev (c : Dev nD) : Fin 7 → Dev nD :=
  ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩]

/-- Signal `k` goes to `peer k`; -/
theorem sigDev_eq (c : Dev nD) (k : Fin 7) : sigDev c k = peer k c := by
  refine Fin.ext ?_
  fin_cases k
  · exact k0_dev1_eq c
  · exact k0_dev2_eq c
  · exact k0_dev3_eq c
  · exact k0_dev4_eq c
  · exact k0_dev5_eq c
  · exact k0_dev6_eq c
  · exact k0_dev7_eq c

/-- and so does copy `k`. -/
theorem dstDev_eq (c : Dev nD) (k : Fin 7) : dstDev c k = peer k c := by
  refine Fin.ext ?_
  fin_cases k
  · exact k0_dev8_eq c
  · exact k0_dev9_eq c
  · exact k0_dev10_eq c
  · exact k0_dev11_eq c
  · exact k0_dev12_eq c
  · exact k0_dev13_eq c
  · exact k0_dev14_eq c

/-! ## The buffers -/

/-- The staged input block as memory, -/
abbrev xM : Memref sig .tc .vmem S2048x1024 .f32 := Memref.whole cc0_stg0_0
/-- the result buffer, -/
abbrev oM : Memref sig .tc .vmem S1x1024 .f32 := Memref.whole cc0_stg1_0
/-- and the communication buffer. -/
abbrev rM : Memref sig .tc .vmem S7x1x1024 .f32 := Memref.whole cc0_scratch0

/-- Slot `k` lies in the communication buffer. -/
theorem slot_inb (k : Fin 7) (a : Fin S7x1x1024.rank) : (![k.val, 0, 0] : Fin 3 → ℕ) a + S1x1x1024.size a ≤ S7x1x1024.size a := by
  revert k a; decide

/-- Row `k` of the communication buffer, as a rectangle of it; -/
abbrev slotR (k : Fin 7) : Rect S7x1x1024 := Rect.unit (s := S7x1x1024) ![k.val, 0, 0] S1x1x1024.size (slot_inb k)

/-- and as the one-row buffer that a copy fills. -/
abbrev slotM (k : Fin 7) : Memref sig .tc .vmem S1x1024 .f32 :=
  ((rM : Memref sig .tc .vmem S7x1x1024 .f32).slice (slotR k) (fun _ => rfl)).squeeze S1x1024 squeezes_S1x1x1024_S1x1024

/-- The elements of slot `k`, -/
abbrev slotE (k : Fin 7) : Finset S7x1x1024.Idx := (slotM k).view.set

/-- which are those of row `k`. -/
theorem slot_set (k : Fin 7) : slotE k = (slotR k).set :=
  (View.set_reshape _ _).trans (View.set_slice_whole _ _)

/-- Different slots share no element. -/
theorem slot_disjoint (k k' : Fin 7) (h : k ≠ k') : Disjoint (slotE k) (slotE k') := by
  rw [slot_set, slot_set, Finset.disjoint_left]
  intro i hi hi'
  have h1 := (Rect.mem_set_unit.mp hi) (0 : Fin 3)
  have h2 := (Rect.mem_set_unit.mp hi') (0 : Fin 3)
  have e1 : S1x1x1024.size (0 : Fin 3) = 1 := rfl
  rw [e1] at h1 h2
  have a1 : k.val ≤ (i (0 : Fin 3)).val := h1.1
  have a2 : (i (0 : Fin 3)).val < k.val + 1 := h1.2
  have b1 : k'.val ≤ (i (0 : Fin 3)).val := h2.1
  have b2 : (i (0 : Fin 3)).val < k'.val + 1 := h2.2
  exact h (Fin.ext (by omega))

/-- Together the slots are the whole communication buffer. -/
theorem slot_cover : Finset.univ.biUnion slotE = Finset.univ := by
  ext i
  simp only [Finset.mem_biUnion, Finset.mem_univ, true_and, iff_true]
  obtain ⟨k, hk⟩ : ∃ k : Fin 7, k.val = (i (0 : Fin 3)).val := ⟨⟨(i (0 : Fin 3)).val, (i (0 : Fin 3)).isLt⟩, rfl⟩
  refine ⟨k, ?_⟩
  rw [slot_set]
  refine Rect.mem_set_unit.mpr fun a => ?_
  match a with
  | ⟨0, _⟩ => exact ⟨le_of_eq hk, lt_of_le_of_lt (le_of_eq hk.symm) (Nat.lt_succ_self _)⟩
  | ⟨1, _⟩ => exact ⟨Nat.zero_le _, lt_of_lt_of_eq (i (1 : Fin 3)).isLt (Nat.zero_add _).symm⟩
  | ⟨2, _⟩ => exact ⟨Nat.zero_le _, lt_of_lt_of_eq (i (2 : Fin 3)).isLt (Nat.zero_add _).symm⟩

/-! ## The semaphores -/

/-- Semaphore `k` lies in an array of seven. -/
theorem sem_inb (k : Fin 7) (a : Fin S7.rank) : (![k.val] : Fin 1 → ℕ) a + S1.size a ≤ S7.size a := by
  revert k a; decide

/-- The barrier semaphore; -/
abbrev barS : Sem sig := (SemArray.scalar (sig.barrier 0 rfl) : Sems sig S_).sem
/-- the semaphore that tells a device that its own copy `k` has left; -/
abbrev sendS (k : Fin 7) : DmaSem sig :=
  ((cc0_scratch1.slice (Rect.unit (s := S7) ![k.val] S1.size (sem_inb k))).squeeze S_ squeezes_S1_S_).sem
/-- and the one that tells it that its slot `k` is filled. -/
abbrev recvS (k : Fin 7) : DmaSem sig :=
  ((cc0_scratch2.slice (Rect.unit (s := S7) ![k.val] S1.size (sem_inb k))).squeeze S_ squeezes_S1_S_).sem

/-- Send semaphores are numbered from 2; -/
theorem sendS_val (k : Fin 7) : (sendS k).val = 2 + k.val := by revert k; decide
/-- receive semaphores from 9. -/
theorem recvS_val (k : Fin 7) : (recvS k).val = 9 + k.val := by revert k; decide

/-- Different offsets have different send semaphores, -/
theorem sendS_inj {k k' : Fin 7} (h : sendS k = sendS k') : k = k' := by
  have := congrArg Fin.val h; rw [sendS_val, sendS_val] at this; exact Fin.ext (by omega)
/-- and different receive semaphores; -/
theorem recvS_inj {k k' : Fin 7} (h : recvS k = recvS k') : k = k' := by
  have := congrArg Fin.val h; rw [recvS_val, recvS_val] at this; exact Fin.ext (by omega)
/-- and no semaphore is both. -/
theorem sendS_ne_recvS (k k' : Fin 7) : sendS k ≠ recvS k' := fun h => by
  have := congrArg Fin.val h; rw [sendS_val, recvS_val] at this; omega

/-- The barrier of device `c`, -/
abbrev barCell (c : Dev nD) : GSem nD τ sig := ((c : Thread nD τ), .reg barS)
/-- its send semaphore `k`, -/
abbrev sendCell (c : Dev nD) (k : Fin 7) : GSem nD τ sig := ((c : Thread nD τ), .dma (sendS k))
/-- and its receive semaphore `k`. -/
abbrev recvCell (c : Dev nD) (k : Fin 7) : GSem nD τ sig := ((c : Thread nD τ), .dma (recvS k))

/-- What one copy of a row adds to a semaphore. -/
abbrev N : ℕ := (oM : Memref sig .tc .vmem S1x1024 .f32).view.dmaCredit
/-- A row counts for something. -/
theorem N_pos : 0 < N := View.dmaCredit_pos _ (by decide)
/-- A copy into a slot adds as much. -/
theorem slot_credit (k : Fin 7) : (slotM k).view.dmaCredit = N := by revert k; decide

/-! ## What the buffers hold -/

/-- Device `c`'s block of `x`, as it is staged. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block. -/
def partialAt (c : Dev nD) : (cc0_stg1_0 : Ref sig .tc).ty.Contents (Elt F) := k0_pay1 (xstg m ρ c)

/-- What device `c`'s communication buffer holds when all copies have arrived: in row `k` the column sums of the
    device `k + 1` steps after it. -/
def commAt (c : Dev nD) : (cc0_scratch0 : Ref sig .tc).ty.Contents (Elt F) :=
  fun i => partialAt m ρ (peer (i (0 : Fin 3)) c) (ix2 (i (1 : Fin 3)) (i (2 : Fin 3)))

/-- The kernel's result on device `c`. -/
def outAt (c : Dev nD) : (cc0_stg1_0 : Ref sig .tc).ty.Contents (Elt F) := k0_pay2 (partialAt m ρ c) (commAt m ρ c)

/-- Device `c`'s slot `k`, held with the contents `f`. -/
def slotPts (c : Dev nD) (k : Fin 7) (f : Buf (Elt F) ((slotM k).view.loc (c : Thread nD τ))) : sProp 𝕄 :=
  (slotM k).view.loc (c : Thread nD τ) ↦[(slotM k).view.set]{fullShare} f

/-- The share of device `c`'s result buffer lent to copy `k`: one of eight equal parts. -/
abbrev part (k : Fin 8) : PosShare TreeShare := ShareLeaves.leaf 3 fullShare k

/-- Part `k` of device `c`'s result buffer while it holds the column sums of the device's own block. -/
def outPart (c : Dev nD) (k : Fin 8) : sProp 𝕄 :=
  (oM : Memref sig .tc .vmem S1x1024 .f32).view.loc (c : Thread nD τ)
    ↦[(oM : Memref sig .tc .vmem S1x1024 .f32).view.set]{part k} partialAt m ρ c

/-- A slot may be kept in a semaphore's record; -/
instance slotPts_storable (c : Dev nD) (k : Fin 7) (f) : BI.Storable (upEmb : UEmb _ 𝕄) (slotPts (F := F) c k f) := by
  unfold slotPts; infer_instance
/-- and so may a part of the result buffer. -/
instance outPart_storable (c : Dev nD) (k : Fin 8) : BI.Storable (upEmb : UEmb _ 𝕄) (outPart (F := F) m ρ c k) := by
  unfold outPart; infer_instance

/-- The communication buffer is its seven slots. -/
theorem comm_eq_slots (c : Dev nD) (f : Buf (Elt F) ((c : Thread nD τ).loc cc0_scratch0)) :
    (((c : Thread nD τ).loc cc0_scratch0) ↦{fullShare} f : sProp 𝕄) = bigSepL offs fun k => slotPts c k f := by
  rw [← bigSep_univ_eq_bigSepL offs offs_univ offs_nodup]
  exact Ring.pointsTo_blocks (ℓ := (c : Thread nD τ).loc cc0_scratch0) slotE slot_disjoint slot_cover f

/-- The parts numbered by offsets. -/
abbrev lent (k : Fin 7) : Fin 8 := k.castSucc

/-- The result buffer is the seven parts lent to the copies and the one that stays. -/
theorem out_eq_parts (c : Dev nD) :
    (((c : Thread nD τ).loc cc0_stg1_0) ↦{fullShare} partialAt m ρ c : sProp 𝕄)
      = iprop(outPart m ρ c (Fin.last 7) ∗ bigSepL offs fun k => outPart m ρ c (lent k)) := by
  have h := ShareLeaves.pointsTo_leaves (ℓ := (c : Thread nD τ).loc cc0_stg1_0) (Ix := Unit) (Name := ℕ) (U := UU) (Lvl := ℕ)
    Finset.univ (partialAt m ρ c) 3 fullShare
  rw [h, bigSep_univ_eq_bigSepL ([7, 0, 1, 2, 3, 4, 5, 6] : List (Fin 8)) (by decide) (by decide), bigSepL_cons_cons]
  unfold outPart
  rw [View.set_whole]
  rfl

/-- Where slot `k` places the element `(p, q)` of its row. -/
theorem slot_emb (k : Fin 7) (p : Fin 1) (q : Fin 1024) : (slotM k).view.emb (ix2 p q) = (ix3 k p q : S7x1x1024.Idx) := by
  have h : Shape.reshapeEquiv (Shape.Squeezes.numel_eq squeezes_S1x1x1024_S1x1024) (ix2 p q : S1x1024.Idx)
      = (ix3 (⟨0, Nat.one_pos⟩ : Fin 1) p q : S1x1x1024.Idx) := reshapeEquiv_ix2_1ab _ p q
  refine (congrArg (slotR k).emb h).trans ?_
  funext a
  refine Fin.ext ?_
  match a with
  | ⟨0, _⟩ => rfl
  | ⟨1, _⟩ => show 0 + 1 * p.val = p.val; rw [Nat.zero_add, Nat.one_mul]
  | ⟨2, _⟩ => show 0 + 1 * q.val = q.val; rw [Nat.zero_add, Nat.one_mul]

/-- Copying the column sums of `peer k c` into slot `k` of device `c` makes it hold its row of `commAt c`. -/
theorem slot_landed (c : Dev nD) (k : Fin 7) (fd : Buf (Elt F) ((slotM k).view.loc (c : Thread nD τ))) :
    slotPts c k ((slotM k).view.write (Elt F) fd ((oM : Memref sig .tc .vmem S1x1024 .f32).view.read (Elt F) (partialAt m ρ (peer k c))) Finset.univ)
      = (slotPts c k (commAt m ρ c) : sProp 𝕄) := by
  unfold slotPts
  refine pointsTo_congr fun i hi => ?_
  obtain ⟨x, -, rfl⟩ := Finset.mem_map.mp hi
  obtain ⟨p, q, rfl⟩ : ∃ (p : Fin 1) (q : Fin 1024), x = ix2 p q := ⟨x (0 : Fin 2), x (1 : Fin 2), eq_ix2 x⟩
  rw [View.write_emb_of_mem _ _ (Finset.mem_univ _), slot_emb]
  rfl

end Cert.KernelIdeal.Exchange

end
-- ==== Proof.KernelIdealSchedule.lean ====
/-
# The schedule of the exchange

Every semaphore is used for one round. The seven duties of a device's barrier are its seven peers' signals; a signal
hands over the slot that the signalled device is going to fill. The one duty of a send semaphore is the device's own
copy leaving, which returns the lent part of the result buffer; the one duty of a receive semaphore is the peer's copy
arriving, which hands over the filled slot. This module states the schedule, what each device owes when the kernel is
launched, and why no wait can be stuck.
-/
module

public import proofs.«01_k».proof.Proof.KernelIdealCells

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Duties, amounts and payloads -/

/-- What signal `k` hands to device `c`, from the device that has `c` as its peer `k`: that device's slot `k`, with
    any contents. -/
def barPay (c : Dev nD) (k : Fin 7) : sProp 𝕄 := iprop(∃ f, slotPts (peer (rev k) c) k f)

/-- The duties: seven at a barrier, one at a send or receive semaphore, named by the offset of its place. -/
def exch : Rounds.Schedule (GSem nD τ sig) (Fin 7) 𝕄 where
  duties g r :=
    if r = 0 ∧ g.1.2 = .tc then
      if g.2 = .reg barS then Finset.univ else Finset.univ.filter fun k => g.2 = .dma (sendS k) ∨ g.2 = .dma (recvS k)
    else ∅
  unitless _ := False
  amount g _ _ := if g.2 = .reg barS then 1 else N
  payload g _ k :=
    if g.2 = .reg barS then barPay g.1.1 k
    else if g.2 = .dma (recvS k) then slotPts g.1.1 k (commAt m ρ g.1.1)
    else if g.2 = .dma (sendS k) then outPart m ρ g.1.1 (lent k)
    else iprop(emp)
  amount_pos g _ _ _ := by
    by_cases h : g.2 = .reg barS
    · rw [if_pos h]; exact Nat.one_pos
    · rw [if_neg h]; exact N_pos

/-- What a signal carries may be kept in a semaphore's record. -/
instance exch_payload_storable (g : GSem nD τ sig) (r : ℕ) (k : Fin 7) :
    BI.Storable (upEmb : UEmb _ 𝕄) ((exch (F := F) m ρ).payload g r k) := by
  show BI.Storable upEmb (if g.2 = .reg barS then barPay g.1.1 k
    else if g.2 = .dma (recvS k) then slotPts g.1.1 k (commAt m ρ g.1.1)
    else if g.2 = .dma (sendS k) then outPart m ρ g.1.1 (lent k) else iprop(emp))
  unfold barPay
  (repeat' split) <;> infer_instance

section Tables
variable (c : Dev nD) (k : Fin 7)

/-- A send semaphore is not the barrier; -/
theorem send_ne_bar : (SemLoc.dma (sendS k) : SemLoc sig) ≠ .reg barS := fun h => by cases h
/-- nor is a receive semaphore. -/
theorem recv_ne_bar : (SemLoc.dma (recvS k) : SemLoc sig) ≠ .reg barS := fun h => by cases h

/-- The barrier has a duty for every offset; -/
theorem duties_bar : (exch (F := F) m ρ).duties (barCell c) 0 = Finset.univ := by
  dsimp only [exch]; rw [if_pos ⟨rfl, rfl⟩, if_pos rfl]

/-- send semaphore `k` has duty `k` alone; -/
theorem duties_send : (exch (F := F) m ρ).duties (sendCell c k) 0 = {k} := by
  dsimp only [exch]
  rw [if_pos ⟨rfl, rfl⟩, if_neg (send_ne_bar k)]
  ext k'
  rw [Finset.mem_filter, Finset.mem_singleton]
  constructor
  · rintro ⟨-, h | h⟩
    · exact (sendS_inj (SemLoc.dma.inj h)).symm
    · exact absurd (SemLoc.dma.inj h) (sendS_ne_recvS k k')
  · rintro rfl; exact ⟨Finset.mem_univ _, .inl rfl⟩

/-- and so has receive semaphore `k`. -/
theorem duties_recv : (exch (F := F) m ρ).duties (recvCell c k) 0 = {k} := by
  dsimp only [exch]
  rw [if_pos ⟨rfl, rfl⟩, if_neg (recv_ne_bar k)]
  ext k'
  rw [Finset.mem_filter, Finset.mem_singleton]
  constructor
  · rintro ⟨-, h | h⟩
    · exact absurd (SemLoc.dma.inj h).symm (sendS_ne_recvS k' k)
    · exact (recvS_inj (SemLoc.dma.inj h)).symm
  · rintro rfl; exact ⟨Finset.mem_univ _, .inr rfl⟩

/-- There is one round only. -/
theorem duties_later (g : GSem nD τ sig) : ∀ r, 1 ≤ r → (exch (F := F) m ρ).duties g r = ∅ :=
  fun r hr => by dsimp only [exch]; rw [if_neg fun h => by omega]

/-- Each signal counts one at the barrier; -/
theorem amount_bar (d : Fin 7) : (exch (F := F) m ρ).amount (barCell c) 0 d = 1 := by dsimp only [exch]; exact if_pos rfl
/-- each copy that leaves counts a row, -/
theorem amount_send (d : Fin 7) : (exch (F := F) m ρ).amount (sendCell c k) 0 d = N := by
  dsimp only [exch]; exact if_neg (send_ne_bar k)
/-- and so does each that arrives. -/
theorem amount_recv (d : Fin 7) : (exch (F := F) m ρ).amount (recvCell c k) 0 d = N := by
  dsimp only [exch]; exact if_neg (recv_ne_bar k)

/-- So a barrier comes to seven; -/
theorem expect_bar : (exch (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- a send semaphore comes to one row, -/
theorem expect_send : (exch (F := F) m ρ).expect (sendCell c k) 0 = N := by
  unfold Schedule.expect Schedule.amountOf; rw [duties_send, Finset.sum_singleton, amount_send]
/-- and so does a receive semaphore. -/
theorem expect_recv : (exch (F := F) m ρ).expect (recvCell c k) 0 = N := by
  unfold Schedule.expect Schedule.amountOf; rw [duties_recv, Finset.sum_singleton, amount_recv]

/-- Signal `k` carries a peer's slot; -/
theorem payload_bar : (exch (F := F) m ρ).payload (barCell c) 0 k = barPay c k := by dsimp only [exch]; exact if_pos rfl
/-- a copy that leaves carries the part of the result buffer that was lent to it; -/
theorem payload_send : (exch (F := F) m ρ).payload (sendCell c k) 0 k = outPart m ρ c (lent k) := by
  dsimp only [exch]
  rw [if_neg (send_ne_bar k), if_neg (fun h => sendS_ne_recvS k k (SemLoc.dma.inj h)), if_pos rfl]
/-- one that arrives carries its slot, filled. -/
theorem payload_recv : (exch (F := F) m ρ).payload (recvCell c k) 0 k = slotPts c k (commAt m ρ c) := by
  dsimp only [exch]; rw [if_neg (recv_ne_bar k), if_pos rfl]

/-- What a wait for the whole barrier round brings: slot `rev k` of every peer `k`, with any contents. -/
theorem rest_bar :
    bigSep ((exch (F := F) m ρ).duties (barCell c) 0 \ ∅) (fun d => (exch (F := F) m ρ).payload (barCell c) 0 d)
      = bigSepL offs fun k => iprop(∃ f, slotPts (peer k c) (rev k) f) := by
  rw [Finset.sdiff_empty, duties_bar, bigSep_congr fun d _ => payload_bar m ρ c d, bigSep_univ_equiv flip,
    ← bigSep_univ_eq_bigSepL offs offs_univ offs_nodup]
  refine bigSep_congr fun k _ => ?_
  show barPay c (rev k) = _
  unfold barPay
  rw [rev_rev]

/-- What a wait for a send semaphore brings: the lent part of the result buffer. -/
theorem rest_send : bigSep ((exch (F := F) m ρ).duties (sendCell c k) 0 \ ∅) (fun d => (exch (F := F) m ρ).payload (sendCell c k) 0 d)
    = outPart m ρ c (lent k) := by
  rw [Finset.sdiff_empty, duties_send, bigSep_singleton, payload_send]

/-- What a wait for a receive semaphore brings: the slot, filled. -/
theorem rest_recv : bigSep ((exch (F := F) m ρ).duties (recvCell c k) 0 \ ∅) (fun d => (exch (F := F) m ρ).payload (recvCell c k) 0 d)
    = slotPts c k (commAt m ρ c) := by
  rw [Finset.sdiff_empty, duties_recv, bigSep_singleton, payload_recv]

end Tables

/-! ## What a device owes, and the levels of the semaphores -/

/-- What device `c` owes while the copies with the offsets `ks` are still to be made: each of them a row's worth at
    the receive semaphore of the slot it fills. -/
def sendOwed (c : Dev nD) : List (Fin 7) → CellTallies nD τ sig Unit
  | [] => 0
  | k :: ks => sendOwed c ks + tallyAt (recvCell (peer k c) (rev k)) () N

/-- What it owes while, besides all copies, the signals with the offsets `ks` are still to be made: each of them one
    unit at the peer's barrier. -/
def sigOwed (c : Dev nD) : List (Fin 7) → CellTallies nD τ sig Unit
  | [] => sendOwed c offs
  | k :: ks => sigOwed c ks + tallyAt (barCell (peer k c)) () 1

/-- What it owes at launch. -/
def O₀ (c : Dev nD) : CellTallies nD τ sig Unit := sigOwed c offs

/-- Whatever is owed for copies is owed at a receive semaphore. -/
theorem sendOwed_pos {c : Dev nD} {g : GSem nD τ sig} {u : Unit} {ks : List (Fin 7)} (h : 0 < sendOwed c ks g u) :
    ∃ d k, g = recvCell d k := by
  induction ks with
  | nil => exact absurd h (Nat.lt_irrefl 0)
  | cons k ks ih =>
    unfold sendOwed at h
    rw [Pi.add_apply, Finsupp.add_apply, tallyAt_apply] at h
    by_cases hg : g = recvCell (peer k c) (rev k) ∧ u = ()
    · exact ⟨_, _, hg.1⟩
    · rw [if_neg hg, Nat.add_zero] at h; exact ih h

/-- Whatever is owed at launch is owed at a receive semaphore or at a barrier. -/
theorem sigOwed_pos {c : Dev nD} {g : GSem nD τ sig} {u : Unit} {ks : List (Fin 7)} (h : 0 < sigOwed c ks g u) :
    (∃ d k, g = recvCell d k) ∨ ∃ d, g = barCell d := by
  induction ks with
  | nil => exact .inl (sendOwed_pos h)
  | cons k ks ih =>
    unfold sigOwed at h
    rw [Pi.add_apply, Finsupp.add_apply, tallyAt_apply] at h
    by_cases hg : g = barCell (peer k c) ∧ u = ()
    · exact .inr ⟨_, hg.1⟩
    · rw [if_neg hg, Nat.add_zero] at h; exact ih h

/-- The semaphores that have a level: the tensor cores'. -/
def L (g : GSem nD τ sig) : Finset Unit := if g.1.2 = .tc then {()} else ∅
/-- Barriers are at level 1, receive semaphores at level 2, all others at level 0. -/
def lv (g : GSem nD τ sig) (_ : Unit) : ℕ := if g.2 = .reg barS then 1 else if ∃ k, g.2 = .dma (recvS k) then 2 else 0

/-- Only tensor cores have semaphores with a level; -/
theorem L_of_ne (g : GSem nD τ sig) (h : g.1.2 ≠ .tc) : L g = ∅ := if_neg h
/-- and all of theirs have one. -/
theorem L_tc (c : Dev nD) (sm : SemLoc sig) : L ((c : Thread nD τ), sm) = {()} := if_pos rfl
/-- A barrier is at level 1; -/
theorem lv_bar (c : Dev nD) (u : Unit) : lv (barCell c) u = 1 := if_pos rfl
/-- a receive semaphore at level 2. -/
theorem lv_recv (c : Dev nD) (k : Fin 7) (u : Unit) : lv (recvCell c k) u = 2 := by
  unfold lv; rw [if_neg (recv_ne_bar k), if_pos ⟨k, rfl⟩]

/-- A device may wait for its staging transfers: whatever it owes then is at a higher level. -/
theorem mayWait_stage (c : Dev nD) (q : DmaSem sig) (hq : ∀ k, q ≠ recvS k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · rcases sigOwed_pos hg with ⟨d, k, rfl⟩ | ⟨d, rfl⟩ <;> exact Finset.mem_singleton_self _
    · rw [Finset.mem_singleton.mp hp]; dsimp only [lv]
      rw [if_neg (fun h => by cases h), if_neg (fun ⟨k, h⟩ => hq k (SemLoc.dma.inj h))]
    · rcases sigOwed_pos hg with ⟨d, k, rfl⟩ | ⟨d, rfl⟩
      · rw [lv_recv]; exact Nat.succ_pos 1
      · rw [lv_bar]; exact Nat.one_pos
  · rw [MayWait_zero]; iintro -; iempintro

/-- A device may wait at its barrier: it owes copies only. -/
theorem mayWait_bar (c : Dev nD) : (levAts L lv : sProp 𝕄) ⊢ MayWait (c : Thread nD τ) (.reg barS) () (sendOwed c offs) :=
  MayOwe.of_cut (L := L) (lev := lv) 1 (fun p hp => by rw [Finset.mem_singleton.mp hp, L_tc]; exact Finset.mem_singleton_self _)
    (fun g u hg => by obtain ⟨d, k, rfl⟩ := sendOwed_pos hg; exact Finset.mem_singleton_self _)
    (fun p hp => by rw [Finset.mem_singleton.mp hp]; exact le_of_eq (lv_bar c ()))
    (fun g u hg => by obtain ⟨d, k, rfl⟩ := sendOwed_pos hg; rw [lv_recv]; exact Nat.lt_succ_self 1)

/-! ## The cells of the exchange, and what is known of all of them -/

/-- The cells of one device: its barrier, its send semaphores, its receive semaphores. -/
abbrev CI : Type := Unit ⊕ (Fin 7 ⊕ Fin 7)

/-- The semaphores that the kernel allocates; -/
abbrev osem : Fin 7 ⊕ Fin 7 → SemLoc sig := fun | .inl k => .dma (sendS k) | .inr k => .dma (recvS k)
/-- with the barrier, all of the exchange's. -/
abbrev csem : CI → SemLoc sig := fun | .inl _ => .reg barS | .inr i => osem i
/-- The semaphore of a cell, on its device. -/
abbrev kcell (ci : Dev nD × CI) : GSem nD τ sig := ((ci.1 : Thread nD τ), csem ci.2)

/-- The barrier among the cells, -/
abbrev iBar : CI := .inl ()
/-- send semaphore `k`, -/
abbrev iSend (k : Fin 7) : CI := .inr (.inl k)
/-- and receive semaphore `k`. -/
abbrev iRecv (k : Fin 7) : CI := .inr (.inr k)

/-- Every cell keeps the schedule, under its name in `K`, and has reached its round. -/
def records (K : Dev nD × CI → ℕ) : sProp 𝕄 :=
  iprop((bigSep Finset.univ fun ci : Dev nD × CI => cellInv ER (exch m ρ) (K ci) (kcell ci))
    ∗ bigSep Finset.univ fun ci : Dev nD × CI => reached ER (kcell ci) 0)

/-- The records may be used any number of times. -/
instance records_persistent (K : Dev nD × CI → ℕ) : BI.Persistent (records m ρ K) := by unfold records; infer_instance

/-- One cell's part of the records. -/
theorem records_at (K : Dev nD × CI → ℕ) (ci : Dev nD × CI) :
    records m ρ K ⊢ (iprop(cellInv ER (exch m ρ) (K ci) (kcell ci) ∗ reached ER (kcell ci) 0) : sProp 𝕄) := by
  unfold records
  exact BI.sep_mono (bigSep_elim (Finset.mem_univ ci)) (bigSep_elim (Finset.mem_univ ci))

end Cert.KernelIdeal.Exchange

end
-- ==== Proof.KernelIdealPhases.lean ====
/-
# The three phases of the exchange

The kernel's body has three stretches that repeat one step for every offset: the signals, the copies, the waits. Each
is stated here for a list of offsets and proved by induction on the list, so that one step is proved once.
-/
module

public import proofs.«01_k».proof.Proof.KernelIdealSchedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The stretches of the program -/

/-- The programs of a tensor core. -/
abbrev Code (F : FTy → Type) [FloatOps F] : Type 1 := Prog (TpuEff nD τ sig (Elt F) Λ₀ .tc) PUnit.{1}

/-- The result buffer is made of whole words; -/
theorem oM_exact : (oM : Memref sig .tc .vmem S1x1024 .f32).view.WordExact := (Memref.isWhole_whole cc0_stg1_0).wordExact
/-- and so is a slot. -/
theorem slot_exact (k : Fin 7) : (slotM k).view.WordExact := (View.wordExact_bits rfl).reshape _ _

/-- The signals with the offsets `ks`, to the devices `pd` names, and then `p`. -/
def sigs (pd : Fin 7 → Dev nD) : List (Fin 7) → Code F → Code F
  | [], p => p
  | k :: ks, p => .op (.semSignal (Dev.tc (pd k)) barS 1) fun _ => sigs pd ks p

/-- The copies with the offsets `ks`, to the devices `pd` names, and then `p`. -/
def sends (pd : Fin 7 → Dev nD) : List (Fin 7) → Code F → Code F
  | [], p => p
  | k :: ks, p =>
    .op (.enqueueDma oM (.remote (Dev.tc (pd k)) (slotM (rev k)) (.dma (sendS k))) (.dma (recvS (rev k))) oM_exact (slot_exact (rev k))
      ⟨⟨rfl, Or.inl rfl⟩, trivial⟩) fun _ => sends pd ks p

/-- For each of the offsets `ks` the wait for the own copy to leave and the wait for a peer's copy to arrive, and then `p`. -/
def waits : List (Fin 7) → Code F → Code F
  | [], p => p
  | k :: ks, p =>
    .op (.waitDma2 (sendS k) (slotM (rev k)) oM (slot_exact (rev k)) oM_exact) fun _ =>
      .op (.waitDma2 (recvS (rev k)) oM (slotM (rev k)) oM_exact (slot_exact (rev k))) fun _ => waits ks p

/-- No loop is measured. -/
abbrev 𝒱₀ : Variants := Variants.none

/-- Device `c`'s run of `p` ends well, in `Q`. -/
abbrev WP (c : Dev nD) (p : Code F) (Q : PUnit.{1} → sProp 𝕄) : sProp 𝕄 :=
  wp frame (wpE (defs₀ (F := F)) 𝒱₀ (c : Thread nD τ) none) Set.univ p Q

variable (K : Dev nD × CI → ℕ)

/-! ## The signals -/

/-- One signal: it pays the peer's barrier duty and hands over the own slot that the peer will fill. -/
theorem wp_sig (c : Dev nD) (k : Fin 7) (ks : List (Fin 7)) (W : Waits sig Unit) (p : PUnit.{1} → Code F) (Q : PUnit.{1} → sProp 𝕄) :
    iprop(records m ρ K ∗ owes (c : Thread nD τ) (sigOwed c (k :: ks)) W ∗ dutyTok ER (barCell (peer k c)) 0 k ∗ ∃ f, slotPts c k f)
      ⊢ iprop((owes (c : Thread nD τ) (sigOwed c ks) W -∗ WP c (p ⟨⟩) Q) -∗ WP c (.op (.semSignal (Dev.tc (peer k c)) barS 1) p) Q) := by
  iintro ⟨#HR, HO, Ht, Hs⟩
  ihave #H := (records_at m ρ K (peer k c, iBar)) $$ HR
  icases H with ⟨#Hinv, #Hre⟩
  iapply (Rounds.wp_signal 𝒱₀ ER (exch m ρ) (c : Thread nD τ) none (dst := (peer k c : Thread nD τ)) (κ := K (peer k c, iBar))
    (d := k) (by rw [duties_bar]; exact Finset.mem_univ _) (amount_bar m ρ (peer k c) k) () (sigOwed c ks) rfl)
  isplitr; · iexact Hinv
  isplitl [HO]; · iexact HO
  isplitl [Ht]; · iexact Ht
  isplitl [Hs]
  · rw [payload_bar]; unfold barPay; rw [peer_rev_peer]; iexact Hs
  iexact Hre

/-- All of them. -/
theorem wp_sigs (c : Dev nD) (ks : List (Fin 7)) (W : Waits sig Unit) (p : Code F) (Q : PUnit.{1} → sProp 𝕄) :
    iprop(records m ρ K ∗ owes (c : Thread nD τ) (sigOwed c ks) W ∗ (bigSepL ks fun k => dutyTok ER (barCell (peer k c)) 0 k)
        ∗ bigSepL ks fun k => iprop(∃ f, slotPts c k f))
      ⊢ iprop((owes (c : Thread nD τ) (sendOwed c offs) W -∗ WP c p Q) -∗ WP c (sigs (fun k => peer k c) ks p) Q) := by
  induction ks with
  | nil =>
    iintro ⟨-, HO, -, -⟩ Hk
    iapply Hk; iexact HO
  | cons k ks ih =>
    rw [bigSepL_cons', bigSepL_cons']
    iintro ⟨#HR, HO, ⟨Ht, Hts⟩, ⟨Hs, Hss⟩⟩ Hk
    iapply (wp_sig m ρ K c k ks W (fun _ => sigs (fun k => peer k c) ks p) Q) $$ [HO Ht Hs]
    · isplitr; · iexact HR
      isplitl [HO]; · iexact HO
      isplitl [Ht] <;> iassumption
    iintro HO
    iapply ih $$ [HO Hts Hss] [Hk]
    · isplitr; · iexact HR
      isplitl [HO]; · iexact HO
      isplitl [Hts] <;> iassumption
    iexact Hk

/-! ## The copies -/

/-- One copy: a part of the result buffer is lent until it has left, and the peer's slot is given away to arrive
    filled. -/
theorem wp_copy (c : Dev nD) (k : Fin 7) (ks : List (Fin 7)) (W : Waits sig Unit) (p : PUnit.{1} → Code F) (Q : PUnit.{1} → sProp 𝕄) :
    iprop(records m ρ K ∗ owes (c : Thread nD τ) (sendOwed c (k :: ks)) W ∗ dutyTok ER (recvCell (peer k c) (rev k)) 0 (rev k)
        ∗ dutyTok ER (sendCell c k) 0 k ∗ outPart m ρ c (lent k) ∗ ∃ f, slotPts (peer k c) (rev k) f)
      ⊢ iprop(((cred (tallyAt (sendCell c k) () N) ∗ owes (c : Thread nD τ) (sendOwed c ks) W) -∗ WP c (p ⟨⟩) Q)
        -∗ WP c (.op (.enqueueDma oM (.remote (Dev.tc (peer k c)) (slotM (rev k)) (.dma (sendS k))) (.dma (recvS (rev k))) oM_exact
          (slot_exact (rev k)) ⟨⟨rfl, Or.inl rfl⟩, trivial⟩) p) Q) := by
  iintro ⟨#HR, HO, HtV, HtS, Hout, ⟨%fn, Hs⟩⟩
  ihave #HS := (records_at m ρ K (c, iSend k)) $$ HR
  ihave #HV := (records_at m ρ K (peer k c, iRecv (rev k))) $$ HR
  icases HS with ⟨#HinvS, #HreS⟩
  icases HV with ⟨#HinvV, #HreV⟩
  unfold outPart slotPts
  iapply (Rounds.wp_send_pointsTo 𝒱₀ ER (exch m ρ) (c : Thread nD τ) none (κ₁ := K (c, iSend k)) (κ₂ := K (peer k c, iRecv (rev k)))
    (r₁ := 0) (r₂ := 0) (d₁ := k) (d₂ := rev k) (fd := fn)
    (by rw [duties_send]; exact Finset.mem_singleton_self _) (by rw [duties_recv]; exact Finset.mem_singleton_self _)
    () () N (by exact slot_credit (rev k)) (amount_send m ρ c k k) (amount_recv m ρ (peer k c) (rev k) (rev k)) (sendOwed c ks) rfl (W := W)
    (by rw [payload_send]; unfold outPart; exact BI.Entails.refl _)
    (by
      rw [payload_recv, ← slot_landed m ρ (peer k c) (rev k) fn, peer_rev_peer]; unfold slotPts
      exact BI.Entails.refl _))
  isplitr; · iexact HinvS
  isplitr; · iexact HinvV
  isplitl [Hout]; · iexact Hout
  isplitl [Hs]; · iexact Hs
  isplitl [HO]; · iexact HO
  isplitl [HtS]; · iexact HtS
  isplitr; · iexact HreS
  isplitl [HtV]; · iexact HtV
  iexact HreV

/-- All of them. -/
theorem wp_sends (c : Dev nD) (ks : List (Fin 7)) (W : Waits sig Unit) (p : Code F) (Q : PUnit.{1} → sProp 𝕄) :
    iprop(records m ρ K ∗ owes (c : Thread nD τ) (sendOwed c ks) W ∗ (bigSepL ks fun k => dutyTok ER (recvCell (peer k c) (rev k)) 0 (rev k))
        ∗ (bigSepL ks fun k => dutyTok ER (sendCell c k) 0 k) ∗ (bigSepL ks fun k => outPart m ρ c (lent k))
        ∗ bigSepL ks fun k => iprop(∃ f, slotPts (peer k c) (rev k) f))
      ⊢ iprop((((bigSepL ks fun k => cred (tallyAt (sendCell c k) () N)) ∗ owes (c : Thread nD τ) 0 W) -∗ WP c p Q)
        -∗ WP c (sends (fun k => peer k c) ks p) Q) := by
  induction ks generalizing p with
  | nil =>
    iintro ⟨-, HO, -, -, -, -⟩ Hk
    iapply Hk
    isplitr; · rw [bigSepL_nil]; iempintro
    iexact HO
  | cons k ks ih =>
    simp only [bigSepL_cons']
    iintro ⟨#HR, HO, ⟨HtV, HtVs⟩, ⟨HtS, HtSs⟩, ⟨Ho, Hos⟩, ⟨Hs, Hss⟩⟩ Hk
    iapply (wp_copy m ρ K c k ks W (fun _ => sends (fun k => peer k c) ks p) Q) $$ [HO HtV HtS Ho Hs]
    · isplitr; · iexact HR
      isplitl [HO]; · iexact HO
      isplitl [HtV]; · iexact HtV
      isplitl [HtS]; · iexact HtS
      isplitl [Ho] <;> iassumption
    iintro ⟨Hc, HO⟩
    iapply (ih p) $$ [HO HtVs HtSs Hos Hss] [Hk Hc]
    · isplitr; · iexact HR
      isplitl [HO]; · iexact HO
      isplitl [HtVs]; · iexact HtVs
      isplitl [HtSs]; · iexact HtSs
      isplitl [Hos] <;> iassumption
    iintro ⟨Hcs, HO⟩
    iapply Hk
    isplitl [Hc Hcs]
    · isplitl [Hc] <;> iassumption
    iexact HO

/-! ## The waits -/

/-- One wait for the own copy to leave: the lent part of the result buffer is back, and the semaphore is at zero for
    good. -/
theorem wp_left (c : Dev nD) (k : Fin 7) (W : Waits sig Unit) (p : PUnit.{1} → Code F) (Q : PUnit.{1} → sProp 𝕄) :
    iprop(records m ρ K ∗ owes (c : Thread nD τ) 0 W ∗ cred (tallyAt (sendCell c k) () N) ∗ atPos ER (sendCell c k) 0 ∅ 0)
      ⊢ iprop(((∃ W', owes (c : Thread nD τ) 0 W') ∗ outPart m ρ c (lent k) ∗ semVal (sendCell c k) 0 -∗ WP c (p ⟨⟩) Q)
        -∗ WP c (.op (.waitDma2 (sendS k) (slotM (rev k)) oM (slot_exact (rev k)) oM_exact) p) Q) := by
  iintro ⟨#HR, HO, Hc, Hat⟩ Hk
  ihave #H := (records_at m ρ K (c, iSend k)) $$ HR
  icases H with ⟨#Hinv, -⟩
  iapply (Rounds.wp_wait_rest_token 𝒱₀ ER (exch m ρ) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact Hinv
    isplitl [Hc]; · iexact Hc
    isplitl [HO]; · iexact HO
    isplitr; · rw [MayWait_zero]; iempintro
    iexact Hat
  iintro ⟨HO, Hat, -, Hpay⟩
  imod (Rounds.cell_close ER (exch m ρ) (Set.mem_univ (K (c, iSend k))) (fun h => h) (R := 0 + 1) (duties_later m ρ (sendCell c k))) $$ [Hat] with Hz
  · isplitr; · iexact Hinv
    iexact Hat
  iapply Hk
  isplitl [HO]; · iexists _; iexact HO
  isplitl [Hpay]
  · iapply (Entails.of_eq (rest_send m ρ c k)); iexact Hpay
  iexact Hz

/-- One wait for a peer's copy to arrive: the slot is back, filled, and the semaphore is at zero for good. -/
theorem wp_arrived (c : Dev nD) (k : Fin 7) (W : Waits sig Unit) (p : PUnit.{1} → Code F) (Q : PUnit.{1} → sProp 𝕄) :
    iprop(records m ρ K ∗ owes (c : Thread nD τ) 0 W ∗ cred (tallyAt (recvCell c k) () N) ∗ atPos ER (recvCell c k) 0 ∅ 0)
      ⊢ iprop(((∃ W', owes (c : Thread nD τ) 0 W') ∗ slotPts c k (commAt m ρ c) ∗ semVal (recvCell c k) 0 -∗ WP c (p ⟨⟩) Q)
        -∗ WP c (.op (.waitDma2 (recvS k) oM (slotM k) oM_exact (slot_exact k)) p) Q) := by
  iintro ⟨#HR, HO, Hc, Hat⟩ Hk
  ihave #H := (records_at m ρ K (c, iRecv k)) $$ HR
  icases H with ⟨#Hinv, -⟩
  iapply (Rounds.wp_wait_rest_token 𝒱₀ ER (exch m ρ) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact Hinv
    isplitl [Hc]; · rw [slot_credit]; iexact Hc
    isplitl [HO]; · iexact HO
    isplitr; · rw [MayWait_zero]; iempintro
    iexact Hat
  iintro ⟨HO, Hat, -, Hpay⟩
  imod (Rounds.cell_close ER (exch m ρ) (Set.mem_univ (K (c, iRecv k))) (fun h => h) (R := 0 + 1) (duties_later m ρ (recvCell c k))) $$ [Hat] with Hz
  · isplitr; · iexact Hinv
    iexact Hat
  iapply Hk
  isplitl [HO]; · iexists _; iexact HO
  isplitl [Hpay]
  · iapply (Entails.of_eq (rest_recv m ρ c k)); iexact Hpay
  iexact Hz

/-- All of them. -/
theorem wp_waits (c : Dev nD) (ks : List (Fin 7)) (W : Waits sig Unit) (p : Code F) (Q : PUnit.{1} → sProp 𝕄) :
    iprop(records m ρ K ∗ owes (c : Thread nD τ) 0 W
        ∗ (bigSepL ks fun k => cred (tallyAt (sendCell c k) () N)) ∗ (bigSepL ks fun k => cred (tallyAt (recvCell c (rev k)) () N))
        ∗ (bigSepL ks fun k => atPos ER (sendCell c k) 0 ∅ 0) ∗ bigSepL ks fun k => atPos ER (recvCell c (rev k)) 0 ∅ 0)
      ⊢ iprop(((∃ W', owes (c : Thread nD τ) 0 W')
          ∗ (bigSepL ks fun k => outPart m ρ c (lent k)) ∗ (bigSepL ks fun k => slotPts c (rev k) (commAt m ρ c))
          ∗ (bigSepL ks fun k => semVal (sendCell c k) 0) ∗ (bigSepL ks fun k => semVal (recvCell c (rev k)) 0) -∗ WP c p Q)
        -∗ WP c (waits ks p) Q) := by
  induction ks generalizing W with
  | nil =>
    simp only [bigSepL_nil]
    iintro ⟨-, HO, -, -, -, -⟩ Hk
    iapply Hk
    isplitl [HO]; · iexists W; iexact HO
    isplitr; · iempintro
    isplitr; · iempintro
    isplitr <;> iempintro
  | cons k ks ih =>
    simp only [bigSepL_cons']
    iintro ⟨#HR, HO, ⟨HcS, HcSs⟩, ⟨HcV, HcVs⟩, ⟨HaS, HaSs⟩, ⟨HaV, HaVs⟩⟩ Hk
    iapply (wp_left m ρ K c k W (fun _ => .op (.waitDma2 (recvS (rev k)) oM (slotM (rev k)) oM_exact (slot_exact (rev k))) fun _ => waits ks p) Q)
      $$ [HO HcS HaS]
    · isplitr; · iexact HR
      isplitl [HO]; · iexact HO
      isplitl [HcS] <;> iassumption
    iintro ⟨⟨%W1, HO⟩, Ho, HzS⟩
    iapply (wp_arrived m ρ K c (rev k) W1 (fun _ => waits ks p) Q) $$ [HO HcV HaV]
    · isplitr; · iexact HR
      isplitl [HO]; · iexact HO
      isplitl [HcV] <;> iassumption
    iintro ⟨⟨%W2, HO⟩, Hs, HzV⟩
    iapply (ih W2) $$ [HO HcSs HcVs HaSs HaVs] [Hk Ho Hs HzS HzV]
    · isplitr; · iexact HR
      isplitl [HO]; · iexact HO
      isplitl [HcSs]; · iexact HcSs
      isplitl [HcVs]; · iexact HcVs
      isplitl [HaSs] <;> iassumption
    iintro ⟨HO, Hos, Hss, HzSs, HzVs⟩
    iapply Hk
    isplitl [HO]; · iexact HO
    isplitl [Ho Hos]; · (isplitl [Ho] <;> iassumption)
    isplitl [Hs Hss]; · (isplitl [Hs] <;> iassumption)
    isplitl [HzS HzSs]; · (isplitl [HzS] <;> iassumption)
    isplitl [HzV] <;> iassumption

end Cert.KernelIdeal.Exchange

end
-- ==== Proof.KernelIdealBody.lean ====
/-
# The kernel's body

The printed body is the signals, the sum of the own block, the wait at the barrier, the copies, the waits for them, and
the final sum. Run from what the launch hands a device, it ends with the result in place, and every semaphore at zero.
-/
module

public import proofs.«01_k».proof.Proof.KernelIdealPhases

@[expose] public section

noncomputable section

namespace Cert.KernelIdeal.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The printed body, in stretches -/

/-- All of the input block; -/
abbrev xRect : Rect S2048x1024 := Rect.unit (s := S2048x1024) ![0, 0] S2048x1024.size inb_S2048x1024_S2048x1024_0_0
/-- all of the result buffer; -/
abbrev oRect : Rect S1x1024 := Rect.unit (s := S1x1024) ![0, 0] S1x1024.size inb_S1x1024_S1x1024_0_0
/-- all of the communication buffer. -/
abbrev rRect : Rect S7x1x1024 := Rect.unit (s := S7x1x1024) ![0, 0, 0] S7x1x1024.size inb_S7x1x1024_S7x1x1024_0_0_0

/-- The final sum: the own column sums and the seven received rows. -/
def addUp : Code F :=
  .op (.load oM oRect.toLoadRect (View.loadsAt_vmem h_S1x1024)) fun v =>
  .op (.load rM rRect.toLoadRect (View.loadsAt_vmem h_S7x1x1024)) fun w =>
  .op (.load oM oRect.toLoadRect (View.loadsAt_vmem h_S1x1024)) fun _ =>
  .op (.store oM oRect (k0_pay2 v w) Finset.univ (View.stores_vmem_bits_univ h_S1x1024 rfl) (.inl rfl)) fun _ => .ret ⟨⟩

/-- What follows the sum of the own block: the wait at the barrier, the copies to the devices `dd` names, the waits for
    them, the final sum. -/
def afterSum (dd : Fin 7 → Dev nD) : Code F := .op (.semWait barS 7) fun _ => sends dd offs (waits offs addUp)

/-- The sum of the own block, and what follows it. -/
def sumOwn (p : Code F) : Code F :=
  .op (.load xM xRect.toLoadRect (View.loadsAt_vmem h_S2048x1024)) fun v =>
  .op (.load oM oRect.toLoadRect (View.loadsAt_vmem h_S1x1024)) fun _ =>
  .op (.store oM oRect (k0_pay1 v) Finset.univ (View.stores_vmem_bits_univ h_S1x1024 rfl) (.inl rfl)) fun _ => p

/-- The body the kernel is called with. -/
abbrev body : Code F :=
  cc0_body (Memref.whole cc0_stg0_0) (Memref.isWhole_whole _) (Memref.whole cc0_stg1_0) (Memref.isWhole_whole _)
    (Memref.whole cc0_scratch0) (Memref.isWhole_whole _) cc0_scratch1 cc0_scratch2

set_option maxRecDepth 65536 in
/-- It is the stretches in their order. -/
theorem body_eq : body (F := F) = .op .deviceId fun d => sigs (sigDev d) offs (sumOwn (afterSum (dstDev d))) := by
  unfold body
  rw [cc0_body_eq_skeleton]
  rfl

/-! ## What a device starts from and what it ends with -/

/-- Running over the opposite offsets is running over the offsets. -/
theorem bigSepL_rev (Φ : Fin 7 → sProp 𝕄) : (bigSepL offs fun k => Φ (rev k)) = bigSepL offs Φ := by
  rw [← bigSep_univ_eq_bigSepL offs offs_univ offs_nodup, ← bigSep_univ_eq_bigSepL offs offs_univ offs_nodup]
  exact (bigSep_univ_equiv flip Φ).symm

/-- Device `c`'s part of the exchange: the records; its position at the start of every semaphore of its own; the tokens
    of the duties it pays, at its peers' barriers and receive semaphores and at its own send semaphores. -/
def ghost (K : Dev nD × CI → ℕ) (c : Dev nD) : sProp 𝕄 :=
  iprop(records m ρ K ∗ atPos ER (barCell c) 0 ∅ 0
    ∗ (bigSepL offs fun k => atPos ER (sendCell c k) 0 ∅ 0) ∗ (bigSepL offs fun k => atPos ER (recvCell c k) 0 ∅ 0)
    ∗ (bigSepL offs fun k => dutyTok ER (barCell (peer k c)) 0 k) ∗ (bigSepL offs fun k => dutyTok ER (recvCell (peer k c) (rev k)) 0 (rev k))
    ∗ bigSepL offs fun k => dutyTok ER (sendCell c k) 0 k)

/-- What it may wait for: seven signals, and a row in every slot; and the levels. -/
def credits (c : Dev nD) : sProp 𝕄 :=
  iprop(cred (tallyAt (barCell c) () 7) ∗ (bigSepL offs fun k => cred (tallyAt (recvCell c k) () N)) ∗ levAts L lv)

/-- The communication buffer, with the contents `f`. -/
abbrev commPts (c : Dev nD) (f : Buf (Elt F) ((c : Thread nD τ).loc cc0_scratch0)) : sProp 𝕄 := ((c : Thread nD τ).loc cc0_scratch0) ↦{fullShare} f

/-- Before the kernel's one grid point: the part of the exchange, and the communication buffer with any contents. -/
def Φ₀ (c : Dev nD) : sProp 𝕄 := iprop(((∃ K, ghost m ρ K c) ∗ credits c) ∗ ∃ f, commPts c f)

/-- After it: the communication buffer filled, and every semaphore at zero. -/
def Φ₁ (c : Dev nD) : sProp 𝕄 :=
  iprop(commPts c (commAt m ρ c) ∗ (bigSepL offs fun k => semVal (sendCell c k) 0) ∗ (bigSepL offs fun k => semVal (recvCell c k) 0)
    ∗ semVal (barCell c) 0)

/-- The kernel's windows: the input block, which stays, and the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The loads and stores read and write whole buffers -/

/-- The two offsets of a whole access to a matrix are zero; -/
theorem zero2 : (![0, 0] : Fin 2 → Nat) = fun _ => 0 := funext fun a => by fin_cases a <;> rfl
/-- and so are the three of one to the communication buffer. -/
theorem zero3 : (![0, 0, 0] : Fin 3 → Nat) = fun _ => 0 := funext fun a => by fin_cases a <;> rfl
/-- A load of all of the staged input reads its contents; -/
theorem read_x (f : (cc0_stg0_0 : Ref sig .tc).ty.Contents (Elt F)) :
    (xM : Memref sig .tc .vmem S2048x1024 .f32).view.readAt (Elt F) xRect.toLoadRect f = f := Memref.readAt_unit_zero (Elt F) cc0_stg0_0 zero2 _ f
/-- so does one of the result buffer; -/
theorem read_out (f : (cc0_stg1_0 : Ref sig .tc).ty.Contents (Elt F)) :
    (oM : Memref sig .tc .vmem S1x1024 .f32).view.readAt (Elt F) oRect.toLoadRect f = f := Memref.readAt_unit_zero (Elt F) cc0_stg1_0 zero2 _ f
/-- and one of the communication buffer. -/
theorem read_comm (f : (cc0_scratch0 : Ref sig .tc).ty.Contents (Elt F)) :
    (rM : Memref sig .tc .vmem S7x1x1024 .f32).view.readAt (Elt F) rRect.toLoadRect f = f := Memref.readAt_unit_zero (Elt F) cc0_scratch0 zero3 _ f
/-- A store to all of the result buffer leaves what is stored. -/
theorem write_out (f w : (cc0_stg1_0 : Ref sig .tc).ty.Contents (Elt F)) :
    ((oM : Memref sig .tc .vmem S1x1024 .f32).access oRect : View sig .tc _ _ _).write (Elt F) f w Finset.univ = w :=
  Memref.write_access_unit_zero_univ (Elt F) cc0_stg1_0 zero2 _ f w

/-! ## The run of the body -/

/-- Device `c`'s staged input block, held whole with the contents `f`; -/
abbrev xPts (c : Dev nD) (f : Buf (Elt F) ((c : Thread nD τ).loc cc0_stg0_0)) : sProp 𝕄 := ((c : Thread nD τ).loc cc0_stg0_0) ↦{fullShare} f
/-- and its result buffer. -/
abbrev oPts (c : Dev nD) (f : Buf (Elt F) ((c : Thread nD τ).loc cc0_stg1_0)) : sProp 𝕄 := ((c : Thread nD τ).loc cc0_stg1_0) ↦{fullShare} f

/-- The sum of the own block leaves its column sums in the result buffer. -/
theorem wp_sumOwn (c : Dev nD) (f : Buf (Elt F) ((c : Thread nD τ).loc cc0_stg1_0)) (p : Code F) (Q : PUnit.{1} → sProp 𝕄) :
    iprop(xPts c (xstg m ρ c) ∗ oPts c f)
      ⊢ iprop((xPts c (xstg m ρ c) ∗ oPts c (partialAt m ρ c) -∗ WP c p Q) -∗ WP c (sumOwn p) Q) := by
  unfold sumOwn
  iintro ⟨Hx, Ho⟩ Hk
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_out]
  iapply Hk
  isplitl [Hx]; · iexact Hx
  iexact Ho

/-- The final sum leaves the result in the result buffer. -/
theorem wp_addUp (c : Dev nD) (Q : PUnit.{1} → sProp 𝕄) :
    iprop(oPts c (partialAt m ρ c) ∗ commPts c (commAt m ρ c))
      ⊢ iprop((oPts c (outAt m ρ c) ∗ commPts c (commAt m ρ c) -∗ Q ⟨⟩) -∗ WP c (addUp) Q) := by
  unfold addUp
  iintro ⟨Ho, Hr⟩ Hk
  iapply (wp_load 𝒱₀ (c : Thread nD τ) none Set.univ (m := oM) (Finset.subset_univ _)) $$ Ho; iintro Ho
  rw [read_out]
  iapply (wp_load 𝒱₀ (c : Thread nD τ) none Set.univ (m := rM) (Finset.subset_univ _)) $$ Hr; iintro Hr
  rw [read_comm]
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [write_out, wp_ret]; imodintro
  iapply Hk
  isplitl [Ho]; · iexact Ho
  iexact Hr

/-- The wait at the barrier: it owes only copies then, and gets every peer's slot; the barrier is at zero for good. -/
theorem wp_barrier (K : Dev nD × CI → ℕ) (c : Dev nD) (W : Waits sig Unit) (p : PUnit.{1} → Code F) (Q : PUnit.{1} → sProp 𝕄) :
    iprop(records m ρ K ∗ levAts L lv ∗ owes (c : Thread nD τ) (sendOwed c offs) W ∗ cred (tallyAt (barCell c) () 7) ∗ atPos ER (barCell c) 0 ∅ 0)
      ⊢ iprop(((∃ W', owes (c : Thread nD τ) (sendOwed c offs) W') ∗ (bigSepL offs fun k => iprop(∃ f, slotPts (peer k c) (rev k) f))
          ∗ semVal (barCell c) 0 -∗ WP c (p ⟨⟩) Q)
        -∗ WP c (.op (.semWait barS 7) p) Q) := by
  iintro ⟨#HR, #Hlev, HO, Hc, Hat⟩ Hk
  ihave #H := (records_at m ρ K (c, iBar)) $$ HR
  icases H with ⟨#Hinv, -⟩
  iapply (Rounds.wp_wait_rest_token 𝒱₀ ER (exch m ρ) (c : Thread nD τ) none (κ := K (c, iBar))
      (wpE_semWait_eq 𝒱₀ (c : Thread nD τ) none Set.univ) (Set.mem_univ _) () (O := sendOwed c offs) (W := W) (R := 0) (m := 0) (T := ∅)
      (by rw [expect_bar])) $$ [Hc HO Hat]
  · isplitr; · iexact Hinv
    isplitl [Hc]; · iexact Hc
    isplitl [HO]; · iexact HO
    isplitr; · iapply (mayWait_bar c); iexact Hlev
    iexact Hat
  iintro ⟨HO, Hat, -, Hpay⟩
  imod (Rounds.cell_close ER (exch m ρ) (Set.mem_univ (K (c, iBar))) (fun h => h) (R := 0 + 1) (duties_later m ρ (barCell c))) $$ [Hat] with Hz
  · isplitr; · iexact Hinv
    iexact Hat
  iapply Hk
  isplitl [HO]; · iexists _; iexact HO
  isplitl [Hpay]
  · iapply (Entails.of_eq (rest_bar m ρ c)); iexact Hpay
  iexact Hz

/-- The buffers and the bookkeeping with which a device's body ends, once its debts are paid. -/
def done (c : Dev nD) : sProp 𝕄 :=
  iprop((∃ W, owes (c : Thread nD τ) 0 W) ∗ xPts c (xstg m ρ c) ∗ oPts c (outAt m ρ c) ∗ Φ₁ m ρ c)

/-- The body: the phases in their order. -/
theorem wp_body (K : Dev nD × CI → ℕ) (c : Dev nD) (W : Waits sig Unit) (f : Buf (Elt F) ((c : Thread nD τ).loc cc0_stg1_0))
    (g : Buf (Elt F) ((c : Thread nD τ).loc cc0_scratch0)) (Q : PUnit.{1} → sProp 𝕄) :
    iprop(ghost m ρ K c ∗ credits c ∗ owes (c : Thread nD τ) (O₀ c) W ∗ xPts c (xstg m ρ c) ∗ oPts c f ∗ commPts c g)
      ⊢ iprop((done m ρ c -∗ Q ⟨⟩) -∗ WP c (body) Q) := by
  rw [body_eq]
  unfold WP
  rw [wp_deviceId, show sigDev c = fun k => peer k c from funext (sigDev_eq c), show dstDev c = fun k => peer k c from funext (dstDev_eq c)]
  unfold ghost credits O₀
  iintro ⟨⟨#HR, HaB, HaS, HaV, HtB, HtV, HtS⟩, ⟨HcB, HcV, #Hlev⟩, HO, Hx, Ho, Hr⟩ Hk
  ihave Hr := (Entails.of_eq (comm_eq_slots c g)) $$ Hr
  iapply (wp_sigs m ρ K c offs W _ Q) $$ [HO HtB Hr]
  · isplitr; · iexact HR
    isplitl [HO]; · iexact HO
    isplitl [HtB]; · iexact HtB
    iapply (bigSepL_mono (Φ := fun k => slotPts c k g) fun k _ => (by iintro H; iexists g; iexact H)); iexact Hr
  iintro HO
  iapply (wp_sumOwn m ρ c f _ Q) $$ [Hx Ho]
  · isplitl [Hx] <;> iassumption
  iintro ⟨Hx, Ho⟩
  unfold afterSum
  iapply (wp_barrier m ρ K c W _ Q) $$ [HO HcB HaB]
  · isplitr; · iexact HR
    isplitr; · iexact Hlev
    isplitl [HO]; · iexact HO
    isplitl [HcB] <;> iassumption
  iintro ⟨⟨%W1, HO⟩, Hs, HzB⟩
  ihave Ho := (Entails.of_eq (out_eq_parts m ρ c)) $$ Ho
  icases Ho with ⟨Hlast, Ho⟩
  iapply (wp_sends m ρ K c offs W1 _ Q) $$ [HO HtV HtS Ho Hs]
  · isplitr; · iexact HR
    isplitl [HO]; · iexact HO
    isplitl [HtV]; · iexact HtV
    isplitl [HtS]; · iexact HtS
    isplitl [Ho] <;> iassumption
  iintro ⟨HcS, HO⟩
  iapply (wp_waits m ρ K c offs W1 _ Q) $$ [HO HcS HcV HaS HaV]
  · isplitr; · iexact HR
    isplitl [HO]; · iexact HO
    isplitl [HcS]; · iexact HcS
    isplitl [HcV]; · rw [bigSepL_rev fun k => cred (tallyAt (recvCell c k) () N)]; iexact HcV
    isplitl [HaS]; · iexact HaS
    rw [bigSepL_rev fun k => atPos ER (recvCell c k) 0 ∅ 0]; iexact HaV
  rw [bigSepL_rev fun k => slotPts c k (commAt m ρ c), bigSepL_rev fun k => semVal (recvCell c k) 0]
  iintro ⟨HO, Ho, Hr, HzS, HzV⟩
  ihave Hr := (Entails.of_eq (comm_eq_slots c (commAt m ρ c)).symm) $$ Hr
  ihave Ho := (Entails.of_eq (out_eq_parts m ρ c).symm) $$ [Hlast Ho]
  · isplitl [Hlast] <;> iassumption
  iapply (wp_addUp m ρ c Q) $$ [Ho Hr]
  · isplitl [Ho] <;> iassumption
  iintro ⟨Ho, Hr⟩
  iapply Hk
  unfold done Φ₁
  isplitl [HO]; · iexact HO
  isplitl [Hx]; · iexact Hx
  isplitl [Ho]; · iexact Ho
  isplitl [Hr]; · iexact Hr
  isplitl [HzS]; · iexact HzS
  isplitl [HzV] <;> iassumption

/-! ## The body as the launch wants it -/

/-- What holds for both windows holds for the input window and for the result window. -/
theorem bigSep_win (Φ : Fin cfg0.W → sProp 𝕄) : bigSep Finset.univ Φ = iprop(Φ (0 : Fin 2) ∗ Φ (1 : Fin 2)) := bigSep_W0 Φ

/-- The input block is fetched at every point of the grid. -/
theorem fetch_x (t : Fin cfg0.N) : (cfg0.win (0 : Fin 2)).fetch t = true := by rw [fin_N0 t]; rfl

/-- Holding a whole buffer through its view is holding the buffer. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer of device `c` with the contents `X`, as the launch hands it over. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the launch hands over before the body, -/
def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

/-- and what it takes back after it. -/
def bodyPost (c : Dev nD) : sProp 𝕄 :=
  iprop(Φ₁ m ρ c ∗ (dats m ρ 0 c).owesAt () t0_0.succ ∗ held c cc0_stg0_0 (xstg m ρ c) ∗ held c cc0_stg1_0 (outAt m ρ c))

/-- The body's run, from the one to the other. -/
theorem sound_body (c : Dev nD) : bodyPre m ρ c ⊢ WP c (body) (fun _ => bodyPost m ρ c) := by
  unfold bodyPre Φ₀ Dat.owesAt Pipeline.owesWithin
  iintro ⟨⟨⟨⟨%K, Hg⟩, Hc⟩, ⟨%g, Hr⟩⟩, ⟨%W, %hW, HO⟩, ⟨%d0, %g0, %hg0, Hx⟩, ⟨%d1, %g1, %hg1, Ho⟩⟩
  have hx : g0 = xstg m ρ c := by rw [hg0]; unfold Dat.before; rw [if_pos (fetch_x t0_0)]; rfl
  subst hx
  iapply (wp_body m ρ K c W g1 g fun _ => bodyPost m ρ c) $$ [Hg Hc HO Hx Ho Hr]
  · isplitl [Hg]; · iexact Hg
    isplitl [Hc]; · iexact Hc
    isplitl [HO]; · iexact HO
    isplitl [Hx]; · iexact Hx
    isplitl [Ho] <;> iassumption
  unfold done bodyPost Dat.owesAt Pipeline.owesWithin
  iintro ⟨⟨%W', HO⟩, Hx, Ho, HΦ⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-- The library's obligation for the body. -/
theorem body_obligation (c : Dev nD) : BodyObligation (dats (F := F) m ρ 0 c) (defs₀ (F := F)) 𝒱₀ () Set.univ := fun t => by
  rw [fin_N0 t, bigSep_win, bigSep_win]
  simp only [owns_buffer]
  exact sound_body m ρ c

end Cert.KernelIdeal.Exchange

end
-- ==== Proof.KernelIdealDeal.lean ====
/-
# Dealing out the exchange

At the launch every device owns its semaphores at zero. All cells of the exchange are set up at once, the records are
given to everybody, and each token goes to the device that pays the duty: the token of a device's barrier duty `k` and
that of its receive duty go to the device that signals it, or copies to it, at that offset.
-/
module

public import proofs.«01_k».proof.Proof.KernelIdealBody

@[expose] public section

noncomputable section

namespace Cert.KernelIdeal.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The send and receive semaphores are different ones, and none is a window's. -/
theorem ownSemFacts : Pipeline.OwnSemFacts cfg0.spec osem := by decide

/-- A device's cells have different semaphores, -/
theorem csem_injective : Function.Injective csem := by decide

/-- and so no cell is counted twice over all the devices. -/
theorem kcell_injective : Function.Injective (kcell : Dev nD × CI → GSem nD τ sig) := by
  rintro ⟨c, i⟩ ⟨c', i'⟩ h
  obtain rfl : c = c' := congrArg (fun g : GSem nD τ sig => g.1.1) h
  exact congrArg (Prod.mk c) (csem_injective (congrArg Prod.snd h))

/-- Every cell of every device. -/
def exchCells : Finset (GSem nD τ sig) := Finset.univ.map ⟨kcell, kcell_injective⟩

/-- The duties of one device's cells: one of its barrier's, or that of a send or a receive semaphore. -/
abbrev DI : Type := Fin 7 ⊕ (Fin 7 ⊕ Fin 7)

/-- The cell a duty belongs to, and its name there. -/
abbrev dutyAt : DI → CI × Fin 7 := fun | .inl k => (iBar, k) | .inr (.inl k) => (iSend k, k) | .inr (.inr k) => (iRecv k, k)

/-- No duty is counted twice on one device; -/
theorem dutyAt_injective : Function.Injective dutyAt := by decide

/-- the token of a duty: its cell, the one round, its name there; -/
abbrev tokOf (cj : Dev nD × DI) : GSem nD τ sig × ℕ × Fin 7 := (kcell (cj.1, (dutyAt cj.2).1), 0, (dutyAt cj.2).2)

/-- and no token is counted twice over all the devices. -/
theorem tokOf_injective : Function.Injective (tokOf : Dev nD × DI → GSem nD τ sig × ℕ × Fin 7) := by
  rintro ⟨c, j⟩ ⟨c', j'⟩ h
  have h1 := kcell_injective (congrArg Prod.fst h)
  have h2 : (dutyAt j).2 = (dutyAt j').2 := congrArg (fun x : GSem nD τ sig × ℕ × Fin 7 => x.2.2) h
  obtain rfl : c = c' := congrArg Prod.fst h1
  exact congrArg (Prod.mk c) (dutyAt_injective (Prod.ext (congrArg Prod.snd h1) h2))

/-- The token of every duty. -/
def exchToks : Finset (GSem nD τ sig × ℕ × Fin 7) := Finset.univ.map ⟨tokOf, tokOf_injective⟩

/-- The launch's ghost state: the staging pipeline's, and the exchange's. -/
def u₀ : UU := (initOf (Pipeline.cells cfgs cellOf_inj) (Pipeline.launchToks cfgs cellOf_inj), initOf exchCells exchToks)

/-- The tokens of the duties of device `c`'s own cells. -/
def toks (c : Dev nD) : sProp 𝕄 :=
  iprop((bigSep Finset.univ fun k : Fin 7 => dutyTok ER (barCell c) 0 k) ∗ (bigSep Finset.univ fun k : Fin 7 => dutyTok ER (sendCell c k) 0 k)
    ∗ bigSep Finset.univ fun k : Fin 7 => dutyTok ER (recvCell c k) 0 k)

/-- What the launch deals to device `c` at first: its cells' states, its positions, and its own cells' tokens. -/
def G (c : Dev nD) : sProp 𝕄 :=
  iprop((bigSep Finset.univ fun i : CI => roundState ER (exch m ρ) (kcell (c, i)) 0)
    ∗ (bigSep Finset.univ fun i : CI => iprop(atPos ER (kcell (c, i)) 0 ∅ 0 ∗ reached ER (kcell (c, i)) 0)) ∗ toks c)

/-- What it has once everything is dealt around. -/
def G' (c : Dev nD) : sProp 𝕄 := iprop(∃ K, ghost m ρ K c)

/-- The launch's ghost state is everybody's first share. -/
theorem fund_exch : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun i : CI => Φ (kcell (c, i)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod]
    exact bigSep_congr fun c _ => by rw [bigSep_univ_sum, bigSep_univ_sum]; rfl
  iintro HX
  imod (Rounds.fund ER (exch m ρ) exchCells exchToks) $$ HX with ⟨Hst, Hr, Hat, Htok⟩
  imodintro
  ihave Hst := (Entails.of_eq (hX fun g => roundState ER (exch m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Setting up the cells -/

/-- Over a device's cells: its barrier, its send semaphores, its receive semaphores. -/
theorem bigSep_cells (Φ : CI → sProp 𝕄) :
    bigSep Finset.univ Φ = iprop(Φ iBar ∗ (bigSepL offs fun k => Φ (iSend k)) ∗ bigSepL offs fun k => Φ (iRecv k)) := by
  rw [bigSep_univ_sum, bigSep_univ_of_subsingleton (), bigSep_univ_sum, bigSep_univ_eq_bigSepL offs offs_univ offs_nodup,
    bigSep_univ_eq_bigSepL offs offs_univ offs_nodup]
  rfl

/-- The kernel's own semaphores are the send and receive semaphores, -/
theorem ownSems0_eq (c : Dev nD) : (Pipeline.ownSems0 (Ix := Unit) (Name := ℕ) (U := UU) (Lvl := ℕ) (Val := Elt F) (τ := τ) osem c : sProp 𝕄)
    = iprop((bigSepL offs fun k => semVal (sendCell c k) 0) ∗ bigSepL offs fun k => semVal (recvCell c k) 0) := by
  unfold Pipeline.ownSems0
  rw [bigSep_univ_sum, bigSep_univ_eq_bigSepL offs offs_univ offs_nodup, bigSep_univ_eq_bigSepL offs offs_univ offs_nodup]
  rfl

/-- and the one it does not allocate is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device sets its cells up from its semaphores at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (exch m ρ) κ (kcell (c, i))))
          ∗ (bigSep Finset.univ fun i => iprop(atPos ER (kcell (c, i)) 0 ∅ 0 ∗ reached ER (kcell (c, i)) 0)) ∗ toks c) := by
  have halloc : iprop((bigSep Finset.univ fun i : CI => semVal (kcell (c, i)) 0) ∗ bigSep Finset.univ fun i : CI => roundState ER (exch m ρ) (kcell (c, i)) 0)
      ⊢ (|={Set.univ}=> bigSep Finset.univ fun i => iprop(∃ κ : ℕ, cellInv ER (exch m ρ) κ (kcell (c, i))) : sProp 𝕄) := by
    rw [← bigSep_sep']
    exact (bigSep_mono fun i _ => (Rounds.body_intro ER (exch m ρ) (kcell (c, i))).trans inv_alloc).trans (bigSep_fupd _ _)
  rw [ownSems0_eq, unscopedSems0_eq]
  unfold G
  iintro ⟨⟨HS, HV⟩, HB, Hst, Hat, Htok⟩
  imod halloc $$ [HS HV HB Hst] with Hinv
  · isplitr [Hst]
    · rw [bigSep_cells]
      isplitl [HB]; · iexact HB
      isplitl [HS] <;> iassumption
    · iexact Hst
  imodintro
  isplitl [Hinv]; · iexact Hinv
  isplitl [Hat] <;> iassumption

/-! ## Dealing around -/

/-- Whatever there is one of for every device and offset, `peer k c`'s can be counted for `c` instead of `c`'s. -/
theorem around (Φ : Dev nD → Fin 7 → sProp 𝕄) :
    (bigSep Finset.univ fun c : Dev nD => bigSep Finset.univ fun k : Fin 7 => Φ c k)
      = bigSep Finset.univ fun c : Dev nD => bigSepL offs fun k => Φ (peer k c) k := by
  simp only [← bigSep_univ_eq_bigSepL offs offs_univ offs_nodup]
  rw [bigSep_univ_comm, bigSep_congr fun k _ => bigSep_univ_equiv (turn k) fun c => Φ c k, bigSep_univ_comm]
  rfl

/-- The tokens of the duties that device `c` pays. -/
def payToks (c : Dev nD) : sProp 𝕄 :=
  iprop((bigSepL offs fun k => dutyTok ER (barCell (peer k c)) 0 k) ∗ (bigSepL offs fun k => dutyTok ER (recvCell (peer k c) (rev k)) 0 (rev k))
    ∗ bigSepL offs fun k => dutyTok ER (sendCell c k) 0 k)

/-- Everybody's own tokens are the tokens everybody pays with. -/
theorem toks_around : (bigSep Finset.univ fun c : Dev nD => (toks c : sProp 𝕄)) ⊢ bigSep Finset.univ fun c : Dev nD => payToks c := by
  unfold toks payToks
  simp only [bigSep_sep']
  rw [around fun c k => dutyTok ER (barCell c) 0 k,
    bigSep_congr (s := Finset.univ) fun (c : Dev nD) _ => bigSep_univ_equiv flip fun k : Fin 7 => (dutyTok ER (recvCell c k) 0 k : sProp 𝕄),
    show (bigSep Finset.univ fun c : Dev nD => bigSep Finset.univ fun k : Fin 7 => (dutyTok ER (recvCell c (flip k)) 0 (flip k) : sProp 𝕄))
      = bigSep Finset.univ fun c : Dev nD => bigSepL offs fun k => dutyTok ER (recvCell (peer k c) (rev k)) 0 (rev k)
      from around fun c k => dutyTok ER (recvCell c (rev k)) 0 (rev k),
    bigSep_congr (s := Finset.univ) fun (c : Dev nD) _ =>
      bigSep_univ_eq_bigSepL offs offs_univ offs_nodup fun k : Fin 7 => (dutyTok ER (sendCell c k) 0 k : sProp 𝕄)]
  iintro ⟨HB, HS, HV⟩
  isplitl [HB]; · iexact HB
  isplitl [HV] <;> iassumption

/-- The records, a device's positions and the tokens it pays with are its part of the exchange. -/
theorem ghost_intro (K : Dev nD × CI → ℕ) (c : Dev nD) :
    iprop(records m ρ K ∗ (bigSep Finset.univ fun i : CI => atPos ER (kcell (c, i)) 0 ∅ 0) ∗ payToks c) ⊢ G' m ρ c := by
  rw [bigSep_cells]
  unfold payToks G' ghost
  iintro ⟨HR, ⟨HaB, HaS, HaV⟩, Htok⟩
  iexists K
  isplitl [HR]; · iexact HR
  isplitl [HaB]; · iexact HaB
  isplitl [HaS]; · iexact HaS
  isplitl [HaV] <;> iassumption

/-- From everybody's cells, positions and tokens to everybody's part of the exchange. -/
theorem regroup :
    (bigSep Finset.univ fun c : Dev nD => iprop((bigSep Finset.univ fun i => iprop(∃ κ : ℕ, cellInv ER (exch m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  have hex := BI.bigSep_exists_pi Finset.univ (fun (ci : Dev nD × CI) (κ : ℕ) => (cellInv ER (exch m ρ) κ (kcell ci) : sProp 𝕄))
  rw [bigSep_univ_prod] at hex
  simp only [bigSep_sep']
  iintro ⟨HI, ⟨Hat, Hr⟩, Htok⟩
  ihave HK := hex $$ HI
  icases HK with ⟨%K, #HI⟩
  ihave Htok := (toks_around (F := F)) $$ Htok
  ihave #HR := (show iprop((bigSep Finset.univ fun ci : Dev nD × CI => cellInv ER (exch m ρ) (K ci) (kcell ci))
      ∗ bigSep Finset.univ fun c : Dev nD => bigSep Finset.univ fun i : CI => reached ER (kcell (c, i)) 0) ⊢ records m ρ K from by
        unfold records; rw [bigSep_univ_prod (fun ci : Dev nD × CI => (reached ER (kcell ci) 0 : sProp 𝕄))]) $$ [Hr]
  · isplitr; · iexact HI
    iexact Hr
  ihave HRs := (BI.bigSep_of_persistent (Finset.univ : Finset (Dev nD)) (records m ρ K)) $$ HR
  iapply (show bigSep Finset.univ (fun c : Dev nD => iprop(records m ρ K ∗ (bigSep Finset.univ fun i : CI => atPos ER (kcell (c, i)) 0 ∅ 0) ∗ payToks c))
    ⊢ bigSep Finset.univ (G' m ρ) from bigSep_mono fun c _ => ghost_intro m ρ K c)
  simp only [bigSep_sep']
  isplitl [HRs]; · iexact HRs
  isplitl [Hat] <;> iassumption

/-- The launch's step: from everybody's semaphores at zero and first shares to everybody's part of the exchange. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Exchange

end
-- ==== Proof.KernelIdealLaunch.lean ====
/-
# The launch

What the devices owe each other at the launch is what each may wait for. With that, and with everything dealt out, the
library's launch theorem gives the run of the whole program.
-/
module

public import proofs.«01_k».proof.Proof.KernelIdealDeal
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the others owe a device -/

/-- Copies are owed to receive semaphores: to that of slot `j` of device `c`, one row by the device whose copy `rev j`
    goes there. -/
theorem sendOwed_recv (d c : Dev nD) (j : Fin 7) (ks : List (Fin 7)) :
    sendOwed d ks (recvCell c j) () = (ks.map fun k => if peer k d = c ∧ rev k = j then 1 else 0).sum * N := by
  induction ks with
  | nil => rw [List.map_nil, List.sum_nil, Nat.zero_mul]; rfl
  | cons k ks ih =>
    rw [List.map_cons, List.sum_cons, Nat.add_mul, ← ih, Nat.add_comm, sendOwed, Pi.add_apply, Finsupp.add_apply, tallyAt_apply]
    congr 1
    by_cases h : peer k d = c ∧ rev k = j
    · obtain ⟨rfl, rfl⟩ := h
      rw [if_pos ⟨rfl, rfl⟩, if_pos ⟨rfl, rfl⟩, Nat.one_mul]
    · rw [if_neg h, Nat.zero_mul]
      refine if_neg fun ⟨hg, _⟩ => h ?_
      exact ⟨(congrArg (fun g : GSem nD τ sig => g.1.1) hg).symm, (recvS_inj (SemLoc.dma.inj (congrArg Prod.snd hg))).symm⟩

/-- They are not owed to barriers; -/
theorem sendOwed_bar (d c : Dev nD) (ks : List (Fin 7)) : sendOwed d ks (barCell c) () = 0 := by
  by_contra h
  obtain ⟨d', k, hg⟩ := sendOwed_pos (Nat.pos_of_ne_zero h)
  exact recv_ne_bar k (congrArg Prod.snd hg).symm

/-- signals are, -/
theorem sigOwed_bar (d c : Dev nD) (ks : List (Fin 7)) :
    sigOwed d ks (barCell c) () = (ks.map fun k => if peer k d = c then 1 else 0).sum := by
  induction ks with
  | nil => rw [List.map_nil, List.sum_nil]; exact sendOwed_bar d c offs
  | cons k ks ih =>
    rw [List.map_cons, List.sum_cons, ← ih, Nat.add_comm, sigOwed, Pi.add_apply, Finsupp.add_apply, tallyAt_apply]
    congr 1
    by_cases h : peer k d = c
    · subst h; rw [if_pos ⟨rfl, rfl⟩, if_pos rfl]
    · rw [if_neg h]
      exact if_neg fun ⟨hg, _⟩ => h (congrArg (fun g : GSem nD τ sig => g.1.1) hg).symm

/-- and not to receive semaphores. -/
theorem sigOwed_recv (d c : Dev nD) (j : Fin 7) (ks : List (Fin 7)) : sigOwed d ks (recvCell c j) () = sendOwed d offs (recvCell c j) () := by
  induction ks with
  | nil => rfl
  | cons k ks ih =>
    rw [sigOwed, Pi.add_apply, Finsupp.add_apply, ih, tallyAt_ne_cell fun h => recv_ne_bar j (congrArg Prod.snd h)]
    rfl

/-- All devices together owe a barrier seven signals; -/
theorem launch_bar (c : Dev nD) :
    tallyOn (barCell c) (launchCredit (Pipeline.owing O₀) 0 (barCell c)) = (tallyAt (barCell c) () 7 : CellTallies nD τ sig Unit) := by
  unfold tallyAt
  refine congrArg _ (Finsupp.ext fun u => ?_)
  rw [Pipeline.launchCredit_owing, Finsupp.single_eq_same]
  exact (Finset.sum_congr rfl fun d _ => sigOwed_bar d c offs).trans (by revert c; decide)

/-- and a receive semaphore one row. -/
theorem launch_recv (c : Dev nD) (j : Fin 7) :
    tallyOn (recvCell c j) (launchCredit (Pipeline.owing O₀) 0 (recvCell c j)) = (tallyAt (recvCell c j) () N : CellTallies nD τ sig Unit) := by
  unfold tallyAt
  refine congrArg _ (Finsupp.ext fun u => ?_)
  rw [Pipeline.launchCredit_owing, Finsupp.single_eq_same]
  refine (Finset.sum_congr rfl fun d _ => (sigOwed_recv d c j offs).trans (sendOwed_recv d c j offs)).trans ?_
  rw [← Finset.sum_mul, show (∑ d : Dev nD, (offs.map fun k => if peer k d = c ∧ rev k = j then 1 else 0).sum) = 1 from by revert c j; decide, Nat.one_mul]

/-- So each device may wait for seven signals and for a row in every slot. -/
theorem creds (c : Dev nD) :
    (Pipeline.launchCred O₀ c : sProp 𝕄) ⊢ iprop(cred (tallyAt (barCell c) () 7) ∗ bigSepL offs fun k => cred (tallyAt (recvCell c k) () N)) := by
  have h : (Pipeline.launchCred O₀ c : sProp 𝕄) ⊢ iprop(cred (tallyAt (barCell c) () 7)
      ∗ (bigSepL offs fun k => cred (tallyOn (sendCell c k) (launchCredit (Pipeline.owing O₀) 0 (sendCell c k))))
      ∗ bigSepL offs fun k => cred (tallyAt (recvCell c k) () N)) := by
    unfold Pipeline.launchCred
    refine Entails.trans (bigSep_subset (Finset.subset_univ (Finset.univ.image csem))) (Entails.of_eq ?_)
    rw [bigSep_image_of_injOn (fun _ _ _ _ h => csem_injective h), bigSep_cells]
    simp only [launch_bar, launch_recv]
  iintro H
  ihave H := h $$ H
  icases H with ⟨HB, -, HV⟩
  isplitl [HB] <;> iassumption

/-! ## The launch theorem's side conditions -/

/-- The windows' arrays are held whole. -/
theorem share_eq (c : Dev nD) (w : Fin cfg0.W) : (dats m ρ 0 c).share w = fullShare := by unfold Dat.share; split <;> rfl

/-- What the launch gives a device is what its body starts from: its part of what was dealt out, and its credits. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop((G' m ρ c ∗ credits c) ∗ emp) := by
  iintro ⟨-, Hlev, Hcr, -, HG⟩
  ihave Hc := (creds (F := F) c) $$ Hcr
  icases Hc with ⟨HB, HV⟩
  imodintro
  unfold credits
  isplitl
  · isplitl [HG]; · iexact HG
    isplitl [HB]; · iexact HB
    isplitl [HV] <;> iassumption
  · iempintro

/-- With the communication buffer, that is what holds before the one point of the grid. -/
theorem phi0_intro (c : Dev nD) :
    iprop((G' m ρ c ∗ credits c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ G'
  iintro ⟨Hs, -, Hr⟩
  isplitl [Hs] <;> iassumption

/-- What holds after it gives back the barrier, the send and receive semaphores, all at zero, and the communication buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (commAt m ρ c); iexact Hr

/-- A device may wait for its staging transfers at any point. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds on device `c` after the run. -/
def finalA (c : Dev nD) (w : Fin cfg0.W) : Buf (Elt F) ((cfg0.win w).arr.view.loc (c : Thread nD τ)) := (dats m ρ 0 c).arrAt w cfg0.N

set_option maxRecDepth 8000 in
/-- For all float values and from any memory with all counters zero: every weakly fair execution of the program ends,
    with every device's arrays as computed and every semaphore counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := fun c => iprop(G' m ρ c ∗ credits c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_x (c : Dev nD) : finalA m ρ c (0 : Fin 2) = m ((c : Thread nD τ).loc main_arg0) :=
  (dats (F := F) m ρ 0 c).arrAt_in (0 : Fin 2) rfl _

end Cert.KernelIdeal.Exchange

end
-- ==== Proof.KernelIdealResult.lean ====
/-
# What the arrays hold after the run

The result array is one block, written back at the one point of the grid: it holds the device's own column sums with the
sum of its communication buffer added. The input array is one block as well, and the buffer it is staged in holds all of
it.
-/
module

public import proofs.«01_k».proof.Proof.KernelIdealLaunch

@[expose] public section

noncomputable section

namespace Cert.KernelIdeal.Exchange

open Cert.KernelIdeal Cert.KernelIdeal.Gen

open Idealize.ShloMosaic
open Idealize.ShloMosaic.TcCoe

variable {F : FTy → Type} [FloatOps F]

variable (m : (ℓ : Loc nD τ sig) → Buf (Elt F) ℓ) (ρ : Dev nD → PrngReg)

/-- The staged block of the input is the whole input array of the device. -/
theorem xstg_eq (c : Dev nD) : xstg m ρ c = m ((c : Thread nD τ).loc main_arg0) :=
  Memref.read_access_unit_zero (Elt F) main_arg0 (funext fun a => by fin_cases a <;> rfl) (fun a => by fin_cases a <;> decide) _

/-- The result array of device `c` ends with the column sums of its own block, plus those that its peers sent. -/
theorem finalA_out (c : Dev nD) : finalA m ρ c (1 : Fin 2) = outAt m ρ c := by
  have hread : (win0_1.blk (0 : Fin 1)).view.read (Elt F) (finalA m ρ c (1 : Fin 2)) = outAt m ρ c := by
    unfold finalA
    have hlast := (dats m ρ 0 c).arrAt_succ (1 : Fin 2) (0 : Fin 1)
    rw [if_pos (show (cfg0.win (1 : Fin 2)).flush (0 : Fin 1) = true from by decide)] at hlast
    exact (congrArg _ hlast).trans (View.read_write_univ _ _)
  exact (Memref.read_access_unit_zero (Elt F) main_v1 (funext fun a => by fin_cases a <;> rfl)
    (fun a => by fin_cases a <;> decide) _).symm.trans hread

end Cert.KernelIdeal.Exchange

end
-- ==== Proof.KernelIdealSums.lean ====
/-
# The kernel's arithmetic over the extended reals

The first payload is the sum of each column of a block; the second adds, column by column, the rows of the communication
buffer to it. Entry `l` of what a device ends with is therefore its own column sum and those of its seven peers, which
are all the devices.
-/
module

public import proofs.«01_k».proof.Proof.KernelIdealResult
public import Idealize.ShloMosaic.Lib.Pointwise

@[expose] public section

noncomputable section

namespace Cert.KernelIdeal.Exchange

open Cert.KernelIdeal Cert.KernelIdeal.Gen

open Idealize.ShloMosaic
open Idealize.ShloMosaic.TcCoe

/-- The sum of column `l` of a block. -/
def colSum (x : FVec Ideal S2048x1024 .f32) (l : Fin 1024) : EReal := ∑ i : Fin 2048, x (ix2 i l)

/-- The first payload at column `l`: the sum of that column of the block. -/
theorem pay1_apply (x : FVec Ideal S2048x1024 .f32) (r : Fin 1) (l : Fin 1024) : k0_pay1 (F := Ideal) x (ix2 r l) = colSum x l := by
  pointwise [k0_pay1, colSum]

/-- The second payload at column `l`: the first operand there, plus the sum of the seven rows of the second. -/
theorem pay2_apply (p : FVec Ideal S1x1024 .f32) (q : FVec Ideal S7x1x1024 .f32) (r : Fin 1) (l : Fin 1024) :
    k0_pay2 (F := Ideal) p q (ix2 r l) = p (ix2 r l) + ∑ k : Fin 7, q (ix3 k r l) := by
  obtain rfl : r = 0 := Subsingleton.elim r 0
  pointwise [k0_pay2]

/-- A device and its seven peers are all the devices. -/
theorem sum_peers (c : Dev nD) {M : Type} [AddCommMonoid M] (f : Dev nD → M) :
    f c + ∑ k : Fin 7, f (peer k c) = ∑ d : Dev nD, f d := by
  have hinj : Function.Injective fun k : Fin 7 => peer k c := by revert c; decide
  have huniv : (Finset.univ : Finset (Dev nD)) = insert c (Finset.univ.image fun k : Fin 7 => peer k c) := by
    revert c; decide
  have hc : c ∉ Finset.univ.image fun k : Fin 7 => peer k c := by revert c; decide
  rw [huniv, Finset.sum_insert hc, Finset.sum_image fun a _ b _ h => hinj h]

variable (m : (ℓ : Loc nD τ sig) → Buf (Elt Ideal) ℓ) (ρ : Dev nD → PrngReg)

/-- The column sums of device `c`'s block of the input, as the program finds it. -/
theorem partialAt_apply (c : Dev nD) (r : Fin 1) (l : Fin 1024) :
    partialAt m ρ c (ix2 r l) = colSum (m ((c : Thread nD τ).loc main_arg0)) l := by
  unfold partialAt
  rw [xstg_eq]
  exact pay1_apply _ r l

/-- What device `c` ends with at column `l`: the sum of that column over the blocks of all the devices. -/
theorem outAt_apply (c : Dev nD) (r : Fin 1) (l : Fin 1024) :
    outAt m ρ c (ix2 r l) = ∑ d : Dev nD, colSum (m ((d : Thread nD τ).loc main_arg0)) l := by
  refine (pay2_apply (partialAt m ρ c) (commAt m ρ c) r l).trans ?_
  exact (congrArg₂ (fun a b : EReal => a + b) (partialAt_apply m ρ c r l)
    (Finset.sum_congr rfl fun k _ => partialAt_apply m ρ (peer k c) r l)).trans
    (sum_peers c fun d => colSum (m ((d : Thread nD τ).loc main_arg0)) l)

end Cert.KernelIdeal.Exchange

end
-- ==== Proof.ReferenceSums.lean ====
/-
# What the reference computes

Over the extended reals the reference's result at column `l` is the sum of that column over all the rows of the array; and
that sum, taken block of rows by block of rows, is the sum of the column sums of the blocks.
-/
module

public import proofs.«01_k».proof.Proof.Gen.ReferenceIdeal
public import Idealize.ShloMosaic.Lib.Layout
public import Idealize.ShloMosaic.Lib.Pointwise

@[expose] public section

noncomputable section

namespace Cert.ReferenceIdeal.Sums

open Cert.ReferenceIdeal Cert.ReferenceIdeal.Gen

open Idealize.ShloMosaic

/-- The reference's result, as its operations compute it from the whole array. -/
def result (x : FVec Ideal S16384x1024 .f32) : FVec Ideal S1x1024 .f32 :=
  broadcastInDim S1x1024 ![1] Facts₀.bcast_S1024_S1x1024_1
    (Host.reduceAdd x (constant S_ .f32 0x00000000#32) Facts₀.reducesTo_S16384x1024_S1024_d0 Facts₀.h_S_)

/-- At column `l` it is the sum of that column. -/
theorem result_apply (x : FVec Ideal S16384x1024 .f32) (r : Fin 1) (l : Fin 1024) :
    result x (ix2 r l) = ∑ i : Fin 16384, x (ix2 i l) := by
  pointwise [result]

/-- The sum of a column is the sum, over the eight blocks of rows, of the sum of the block's column. -/
theorem result_blocks (x : FVec Ideal S16384x1024 .f32) (r : Fin 1) (l : Fin 1024) :
    result x (ix2 r l)
      = ∑ d : Fin 8, ∑ i : Fin 2048, (Layout.block ⟨2, ![2048, 1024]⟩ ⟨2, ![16384, 1024]⟩ 0 8 d x) (ix2 i l) := by
  rw [result_apply, Fin.sum_univ_tiles 8 2048 rfl]
  refine Finset.sum_congr rfl fun d _ => Finset.sum_congr rfl fun i _ => congrArg x (funext fun a => Fin.ext ?_)
  match a with
  | ⟨0, _⟩ => rfl
  | ⟨1, _⟩ => rfl

end Cert.ReferenceIdeal.Sums

end
-- ==== Proof.lean ====
/-
# The claims, assembled

The kernel and its reading over the extended reals end with their input kept and every counter at zero, and so does the
reference. The two readings of the kernel are one program, for no operation is replaced. And over the extended reals
every device ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealSums
public import proofs.«01_k».proof.Proof.ReferenceSums
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel with its floats bit for bit: from any memory with all counters zero, every weakly fair execution ends, with
    the input as it was and all counters zero. -/
theorem frame_kernel : Cert.quiescent_Kernel (hKernel := Cert.Kernel.Gen.facts) := fun m ρ _ =>
  (θ_run Cert.Kernel.defs _ _).mono
    (fun _ h => ⟨fun c => (h.1 c (0 : Fin 2)).trans (Cert.Kernel.Exchange.finalA_x m ρ c), h.2⟩)
    (Cert.Kernel.Exchange.run_main m ρ)

/-- The same of the kernel over the extended reals. -/
theorem frame_kernelIdeal : Cert.quiescent_KernelIdeal (hKernelIdeal := Cert.KernelIdeal.Gen.facts) := fun m ρ _ =>
  (θ_run Cert.KernelIdeal.defs _ _).mono
    (fun _ h => ⟨fun c => (h.1 c (0 : Fin 2)).trans (Cert.KernelIdeal.Exchange.finalA_x m ρ c), h.2⟩)
    (Cert.KernelIdeal.Exchange.run_main m ρ)

/-- The same of the reference over the extended reals, which has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run m ρ)

/-- Over the extended reals, when every device holds its block of rows of the reference's array, every device ends with
    the reference's result: the sum of each column of the whole array. -/
theorem sums_agree : Cert.algebraic_KernelIdeal_ReferenceIdeal (hKernelIdeal := Cert.KernelIdeal.Gen.facts)
    (hReferenceIdeal := Cert.ReferenceIdeal.Gen.facts) := by
  intro m ρ m' ρ' _ hblock
  refine ⟨Cert.ReferenceIdeal.Sums.result (m' (((0 : Dev Cert.ReferenceIdeal.nD).tc : Thread _ Cert.ReferenceIdeal.τ).loc Cert.ReferenceIdeal.main_arg0)), ?_, ?_⟩
  · refine (θ_run Cert.KernelIdeal.defs _ _).mono (fun _ h c => ⟨?_, (h.1 c (0 : Fin 2)).trans (Cert.KernelIdeal.Exchange.finalA_x m ρ c)⟩)
      (Cert.KernelIdeal.Exchange.run_main m ρ)
    refine ((h.1 c (1 : Fin 2)).trans (Cert.KernelIdeal.Exchange.finalA_out m ρ c)).trans (funext fun j => ?_)
    rw [eq_ix2 j]
    refine (Cert.KernelIdeal.Exchange.outAt_apply m ρ c (j 0) (j 1)).trans
      (Eq.trans ?_ (Cert.ReferenceIdeal.Sums.result_blocks _ (j 0) (j 1)).symm)
    exact Finset.sum_congr (M := EReal) rfl fun d _ => congrArg (Cert.KernelIdeal.Exchange.colSum · (j 1)) (hblock d)
  · exact (θ_run Cert.ReferenceIdeal.defs _ _).mono (fun _ h => h 0) (Cert.ReferenceIdeal.Value.run m' ρ')

/-- Everything that is claimed. The kernel over the extended reals is the kernel itself, operation for operation. -/
theorem claim : Cert.Claim := ⟨Cert.Kernel.Gen.facts, Cert.KernelIdeal.Gen.facts, Cert.ReferenceIdeal.Gen.facts,
  frame_kernel, frame_kernelIdeal, frame_reference, trivial, sums_agree⟩

end Cert.Proof

end
